-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_d" .f32 0x3A3A2E8C#32 ((1 / 1408 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S60x1024x1408 : Shape := ⟨3, ![60, 1024, 1408]⟩
abbrev S1408 : Shape := ⟨1, ![1408]⟩
abbrev S60x1024 : Shape := ⟨2, ![60, 1024]⟩
abbrev S_ : Shape := ⟨0, ![]⟩
abbrev S60x1024x1 : Shape := ⟨3, ![60, 1024, 1]⟩
abbrev S1x1x1408 : Shape := ⟨3, ![1, 1, 1408]⟩

class Facts : Prop where
  bitsLt_bf16_f32 : FTy.bits .bf16 < FTy.bits .f32
  bcast_S_S60x1024x1408 : S_.BroadcastsInDim S60x1024x1408 (![] : Fin 0 → Fin S60x1024x1408.rank)
  bcast_S_S1408 : S_.BroadcastsInDim S1408 (![] : Fin 0 → Fin S1408.rank)
  bcast_S_S60x1024 : S_.BroadcastsInDim S60x1024 (![] : Fin 0 → Fin S60x1024.rank)
  bcast_S60x1024_S60x1024x1_0_1 : S60x1024.BroadcastsInDim S60x1024x1 (![0, 1] : Fin 2 → Fin S60x1024x1.rank)
  bcast_S60x1024x1_S60x1024x1408_0_1_2 : S60x1024x1.BroadcastsInDim S60x1024x1408 (![0, 1, 2] : Fin 3 → Fin S60x1024x1408.rank)
  bcast_S1408_S1x1x1408_2 : S1408.BroadcastsInDim S1x1x1408 (![2] : Fin 1 → Fin S1x1x1408.rank)
  bcast_S1x1x1408_S60x1024x1408_0_1_2 : S1x1x1408.BroadcastsInDim S60x1024x1408 (![0, 1, 2] : Fin 3 → Fin S60x1024x1408.rank)
  reducesTo_S60x1024x1408_S60x1024_d2 : S60x1024x1408.ReducesTo [2] S60x1024
  h_S_ : 0 < S_.numel
  bcast_S_S60x1024x1 : S_.BroadcastsInDim S60x1024x1 (![] : Fin 0 → Fin S60x1024x1.rank)

variable [Facts]

def fn_part1 {F : FTy → Type} [FloatOps F] (main_v4 : IVec S60x1024x1408 1) (main_v7 : IVec S60x1024x1408 1) (main_v10 : IVec S1408 1) (main_v13 : IVec S60x1024 1) (main_v14 : FVec F S60x1024x1 .f32) (main_v17 : FVec F S60x1024x1408 .f32) (main_v18 : FVec F S60x1024x1408 .f32) (main_v19 : FVec F S1x1x1408 .f32) : IVec S60x1024x1408 1 × IVec S60x1024x1408 1 × IVec S1408 1 × IVec S60x1024 1 × IVec S60x1024x1408 1 :=
  let main_v20 : FVec F S60x1024x1408 .f32 := broadcastInDim S60x1024x1408 ![0, 1, 2] bcast_S1x1x1408_S60x1024x1408_0_1_2 main_v19
  let main_v21 : FVec F S60x1024x1408 .f32 := mulf main_v18 main_v20
  let main_v22 : FVec F S60x1024x1408 .f32 := mulf main_v21 main_v17
  let main_cst_3 : FVec F S_ .f32 := constant S_ .f32 0x00000000#32
  let main_v23 : FVec F S60x1024 .f32 := (fun x v => Host.reduceAdd x v reducesTo_S60x1024x1408_S60x1024_d2 h_S_) main_v22 main_cst_3
  let main_v24 : FVec F S60x1024x1 .f32 := broadcastInDim S60x1024x1 ![0, 1] bcast_S60x1024_S60x1024x1_0_1 main_v23
  let main_cst_4 : FVec F S_ .f32 := constant S_ .f32 0x44B00000#32
  let main_v25 : FVec F S60x1024x1 .f32 := broadcastInDim S60x1024x1 ![] bcast_S_S60x1024x1 main_cst_4
  let main_v26 : FVec F S60x1024x1 .f32 := Host.divf main_v24 main_v25
  let main_v27 : FVec F S60x1024x1408 .f32 := broadcastInDim S60x1024x1408 ![0, 1, 2] bcast_S60x1024x1_S60x1024x1408_0_1_2 main_v26
  let main_v28 : FVec F S60x1024x1408 .f32 := mulf main_v17 main_v27
  let main_v29 : FVec F S60x1024x1408 .f32 := subf main_v21 main_v28
  let main_v30 : FVec F S60x1024x1408 .f32 := broadcastInDim S60x1024x1408 ![0, 1, 2] bcast_S60x1024x1_S60x1024x1408_0_1_2 main_v14
  let main_v31 : FVec F S60x1024x1408 .f32 := mulf main_v30 main_v29
  let main_v32 : FVec F S60x1024x1408 .f32 := Host.absf main_v31
  let main_cst_5 : FVec F S_ .f32 := constant S_ .f32 0x7F7FFFFF#32
  let main_v33 : FVec F S60x1024x1408 .f32 := broadcastInDim S60x1024x1408 ![] bcast_S_S60x1024x1408 main_cst_5
  let main_v34 : IVec S60x1024x1408 1 := cmpf .ole main_v32 main_v33
  (main_v4, main_v7, main_v10, main_v13, main_v34)

def fn {F : FTy → Type} [FloatOps F] (main_arg0 : FVec F S60x1024x1408 .bf16) (main_arg1 : FVec F S60x1024x1408 .bf16) (main_arg2 : FVec F S1408 .f32) (main_arg3 : FVec F S60x1024 .f32) : IVec S60x1024x1408 1 × IVec S60x1024x1408 1 × IVec S1408 1 × IVec S60x1024 1 × IVec S60x1024x1408 1 :=
  let main_v0 : FVec F S60x1024x1408 .f32 := (extf .f32 · bitsLt_bf16_f32) main_arg0
  let main_v1 : FVec F S60x1024x1408 .f32 := (extf .f32 · bitsLt_bf16_f32) main_arg1
  let main_v2 : FVec F S60x1024x1408 .f32 := Host.absf main_v0
  let main_cst : FVec F S_ .f32 := constant S_ .f32 0x7F800000#32
  let main_v3 : FVec F S60x1024x1408 .f32 := broadcastInDim S60x1024x1408 ![] bcast_S_S60x1024x1408 main_cst
  let main_v4 : IVec S60x1024x1408 1 := cmpf .olt main_v2 main_v3
  let main_v5 : FVec F S60x1024x1408 .f32 := Host.absf main_v1
  let main_cst_0 : FVec F S_ .f32 := constant S_ .f32 0x7F800000#32
  let main_v6 : FVec F S60x1024x1408 .f32 := broadcastInDim S60x1024x1408 ![] bcast_S_S60x1024x1408 main_cst_0
  let main_v7 : IVec S60x1024x1408 1 := cmpf .olt main_v5 main_v6
  let main_v8 : FVec F S1408 .f32 := Host.absf main_arg2
  let main_cst_1 : FVec F S_ .f32 := constant S_ .f32 0x7F800000#32
  let main_v9 : FVec F S1408 .f32 := broadcastInDim S1408 ![] bcast_S_S1408 main_cst_1
  let main_v10 : IVec S1408 1 := cmpf .olt main_v8 main_v9
  let main_v11 : FVec F S60x1024 .f32 := Host.absf main_arg3
  let main_cst_2 : FVec F S_ .f32 := constant S_ .f32 0x7F800000#32
  let main_v12 : FVec F S60x1024 .f32 := broadcastInDim S60x1024 ![] bcast_S_S60x1024 main_cst_2
  let main_v13 : IVec S60x1024 1 := cmpf .olt main_v11 main_v12
  let main_v14 : FVec F S60x1024x1 .f32 := broadcastInDim S60x1024x1 ![0, 1] bcast_S60x1024_S60x1024x1_0_1 main_arg3
  let main_v15 : FVec F S60x1024x1408 .f32 := (extf .f32 · bitsLt_bf16_f32) main_arg0
  let main_v16 : FVec F S60x1024x1408 .f32 := broadcastInDim S60x1024x1408 ![0, 1, 2] bcast_S60x1024x1_S60x1024x1408_0_1_2 main_v14
  let main_v17 : FVec F S60x1024x1408 .f32 := mulf main_v15 main_v16
  let main_v18 : FVec F S60x1024x1408 .f32 := (extf .f32 · bitsLt_bf16_f32) main_arg1
  let main_v19 : FVec F S1x1x1408 .f32 := broadcastInDim S1x1x1408 ![2] bcast_S1408_S1x1x1408_2 main_arg2
  fn_part1 (F := F) main_v4 main_v7 main_v10 main_v13 main_v14 main_v17 main_v18 main_v19
-- ==== Kernel.lean ====
abbrev S60x1024x1408 : Shape := ⟨3, ![60, 1024, 1408]⟩
abbrev S1408 : Shape := ⟨1, ![1408]⟩
abbrev S60x1024 : Shape := ⟨2, ![60, 1024]⟩
abbrev S1x1408 : Shape := ⟨2, ![1, 1408]⟩
abbrev S60x8x128 : Shape := ⟨3, ![60, 8, 128]⟩
abbrev S8x1408 : Shape := ⟨2, ![8, 1408]⟩
abbrev S8x128 : Shape := ⟨2, ![8, 128]⟩
abbrev S1x1024x1408 : Shape := ⟨3, ![1, 1024, 1408]⟩
abbrev S1x8x128 : Shape := ⟨3, ![1, 8, 128]⟩
abbrev S1024x128 : Shape := ⟨2, ![1024, 128]⟩
abbrev S128x8 : Shape := ⟨2, ![128, 8]⟩
abbrev S128x1 : Shape := ⟨2, ![128, 1]⟩
abbrev S128x128 : Shape := ⟨2, ![128, 128]⟩
abbrev S32x128 : Shape := ⟨2, ![32, 128]⟩
abbrev S32x1 : Shape := ⟨2, ![32, 1]⟩
abbrev S1x32x1408 : Shape := ⟨3, ![1, 32, 1408]⟩
abbrev S32x1408 : Shape := ⟨2, ![32, 1408]⟩
abbrev S32 : Shape := ⟨1, ![32]⟩
abbrev S4x8x1408 : Shape := ⟨3, ![4, 8, 1408]⟩
abbrev S4x8x11x128 : Shape := ⟨4, ![4, 8, 11, 128]⟩
abbrev S1x1 : Shape := ⟨2, ![1, 1]⟩
abbrev S1 : Shape := ⟨1, ![1]⟩
abbrev S1x1x1 : Shape := ⟨3, ![1, 1, 1]⟩
abbrev S_ : Shape := ⟨0, ![]⟩

abbrev nBuf : Space → Nat
  | .hbm => 13
  | .vmem => 22
  | .smem => 0
  | _ => 0

abbrev bufTy : (tb : Table) → Fin (tcTables nBuf tb) → BufTy
  | .hbm, ⟨0, _⟩ => ⟨S60x1024x1408, .bf16⟩
  | .hbm, ⟨1, _⟩ => ⟨S60x1024x1408, .bf16⟩
  | .hbm, ⟨2, _⟩ => ⟨S1408, .f32⟩
  | .hbm, ⟨3, _⟩ => ⟨S60x1024, .f32⟩
  | .hbm, ⟨4, _⟩ => ⟨S1x1408, .f32⟩
  | .hbm, ⟨5, _⟩ => ⟨S60x8x128, .f32⟩
  | .hbm, ⟨6, _⟩ => ⟨S8x1408, .f32⟩
  | .hbm, ⟨7, _⟩ => ⟨S8x128, .f32⟩
  | .hbm, ⟨8, _⟩ => ⟨S60x1024x1408, .fp8e5m2⟩
  | .hbm, ⟨9, _⟩ => ⟨S1x1, .f32⟩
  | .hbm, ⟨10, _⟩ => ⟨S_, .f32⟩
  | .hbm, ⟨11, _⟩ => ⟨S1408, .f32⟩
  | .hbm, ⟨12, _⟩ => ⟨S1x1x1, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1408, .f32⟩
  | .local _ .vmem, ⟨5, _⟩ => ⟨S1x8x128, .f32⟩
  | .local _ .vmem, ⟨6, _⟩ => ⟨S1x8x128, .f32⟩
  | .local _ .vmem, ⟨7, _⟩ => ⟨S8x1408, .f32⟩
  | .local _ .vmem, ⟨8, _⟩ => ⟨S8x128, .f32⟩
  | .local _ .vmem, ⟨9, _⟩ => ⟨S1024x128, .f32⟩
  | .local _ .vmem, ⟨10, _⟩ => ⟨S1x1024x1408, .bf16⟩
  | .local _ .vmem, ⟨11, _⟩ => ⟨S1x1024x1408, .bf16⟩
  | .local _ .vmem, ⟨12, _⟩ => ⟨S1x1024x1408, .bf16⟩
  | .local _ .vmem, ⟨13, _⟩ => ⟨S1x1024x1408, .bf16⟩
  | .local _ .vmem, ⟨14, _⟩ => ⟨S1x1408, .f32⟩
  | .local _ .vmem, ⟨15, _⟩ => ⟨S1x8x128, .f32⟩
  | .local _ .vmem, ⟨16, _⟩ => ⟨S1x8x128, .f32⟩
  | .local _ .vmem, ⟨17, _⟩ => ⟨S8x128, .f32⟩
  | .local _ .vmem, ⟨18, _⟩ => ⟨S1x1024x1408, .fp8e5m2⟩
  | .local _ .vmem, ⟨19, _⟩ => ⟨S1x1024x1408, .fp8e5m2⟩
  | .local _ .vmem, ⟨20, _⟩ => ⟨S1x1, .f32⟩
  | .local _ .vmem, ⟨21, _⟩ => ⟨S1024x128, .f32⟩
  | _, _ => ⟨S60x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3_0 : Ref sig .tc := ⟨.hbm, 8, rfl⟩
abbrev main_v3_1 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem5_1 : DmaSem sig := 18
abbrev cc1_sem6_0 : DmaSem sig := 19

abbrev nD : Nat := 1
abbrev τ : Topo := Topo.v7x

variable {F : FTy → Type} [FloatOps F]

abbrev grid0 : Pipeline.Grid := ⟨1, ![60], ![false]⟩

@[reducible] def k0_t1_loop : Scf.Loop 32 :=
  let c0_i32_12 : BitVec 32 := 0#32
  let c32_i32 : BitVec 32 := 32#32
  let v54 : BitVec 32 := Scalar.addi c0_i32_12 c32_i32
  let c1_i32 : BitVec 32 := 1#32
  ⟨c0_i32_12, v54, c1_i32⟩
def k0_mult1 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c32_i32_14 : BitVec 32 := 32#32
  let v55 : BitVec 32 := Scalar.muli arg8 c32_i32_14
  v55
def k0_off1 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c32_i32_14 : BitVec 32 := 32#32
  let v55 : BitVec 32 := Scalar.muli arg8 c32_i32_14
  let v56 : BitVec 32 := v55
  let v57 : Index := Scalar.indexCast v56
  let c0_15 : Index := 0#32
  ![v57.toNat, 0]
def k0_off2 (k0_t1 : Fin k0_t1_loop.trips) : Fin 3 → Nat :=
  let c0_16 : Index := 0#32
  let c0_i32_12 : BitVec 32 := 0#32
  let c1_i32 : BitVec 32 := 1#32
  let arg8 : BitVec 32 := Scf.iv c0_i32_12 c1_i32 k0_t1
  let c32_i32_14 : BitVec 32 := 32#32
  let v55 : BitVec 32 := Scalar.muli arg8 c32_i32_14
  let v56 : BitVec 32 := v55
  let v60 : Index := Scalar.indexCast v56
  let c0_17 : Index := 0#32
  ![0, v60.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![60], ![false]⟩

@[reducible] def k1_t1_loop : Scf.Loop 32 :=
  let c0_i32_29 : BitVec 32 := 0#32
  let c32_i32_30 : BitVec 32 := 32#32
  let v139 : BitVec 32 := Scalar.addi c0_i32_29 c32_i32_30
  let c1_i32_31 : BitVec 32 := 1#32
  ⟨c0_i32_29, v139, c1_i32_31⟩
def k1_mult1 (k1_t1 : Fin k1_t1_loop.trips) : BitVec 32 :=
  let c0_i32_29 : BitVec 32 := 0#32
  let c1_i32_31 : BitVec 32 := 1#32
  let arg9 : BitVec 32 := Scf.iv c0_i32_29 c1_i32_31 k1_t1
  let c32_i32_33 : BitVec 32 := 32#32
  let v140 : BitVec 32 := Scalar.muli arg9 c32_i32_33
  v140
def k1_off1 (k1_t1 : Fin k1_t1_loop.trips) : Fin 2 → Nat :=
  let c0_i32_29 : BitVec 32 := 0#32
  let c1_i32_31 : BitVec 32 := 1#32
  let arg9 : BitVec 32 := Scf.iv c0_i32_29 c1_i32_31 k1_t1
  let c32_i32_33 : BitVec 32 := 32#32
  let v140 : BitVec 32 := Scalar.muli arg9 c32_i32_33
  let v141 : BitVec 32 := v140
  let v142 : Index := Scalar.indexCast v141
  let c0_34 : Index := 0#32
  ![v142.toNat, 0]
def k1_off2 (k1_t1 : Fin k1_t1_loop.trips) : Fin 3 → Nat :=
  let c0_35 : Index := 0#32
  let c0_i32_29 : BitVec 32 := 0#32
  let c1_i32_31 : BitVec 32 := 1#32
  let arg9 : BitVec 32 := Scf.iv c0_i32_29 c1_i32_31 k1_t1
  let c32_i32_33 : BitVec 32 := 32#32
  let v140 : BitVec 32 := Scalar.muli arg9 c32_i32_33
  let v141 : BitVec 32 := v140
  let v145 : Index := Scalar.indexCast v141
  let c0_36 : Index := 0#32
  ![0, v145.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1024x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1408 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1024x1408 .fp8e5m2 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== KernelIdeal.lean ====
variable {F : FTy → Type} [FloatOps F] [Named F]
def κ : String → Option EReal := fun
  | "inv_d" => some ((1 / 1408 : ℝ) : EReal)
  | _ => none
-- ==== ReferenceIdeal.lean ====
abbrev S60x1024x1408 : Shape := ⟨3, ![60, 1024, 1408]⟩
abbrev S1408 : Shape := ⟨1, ![1408]⟩
abbrev S60x1024 : Shape := ⟨2, ![60, 1024]⟩
abbrev S60x1024x1 : Shape := ⟨3, ![60, 1024, 1]⟩
abbrev S_ : Shape := ⟨0, ![]⟩
abbrev S1x1x1408 : Shape := ⟨3, ![1, 1, 1408]⟩
abbrev S1x1x1 : Shape := ⟨3, ![1, 1, 1]⟩

abbrev nBuf : Space → Nat
  | .hbm => 74
  | .vmem => 2
  | .smem => 0
  | _ => 0

abbrev bufTy : (tb : Table) → Fin (tcTables nBuf tb) → BufTy
  | .hbm, ⟨0, _⟩ => ⟨S60x1024x1408, .bf16⟩
  | .hbm, ⟨1, _⟩ => ⟨S60x1024x1408, .bf16⟩
  | .hbm, ⟨2, _⟩ => ⟨S1408, .f32⟩
  | .hbm, ⟨3, _⟩ => ⟨S60x1024, .f32⟩
  | .hbm, ⟨4, _⟩ => ⟨S60x1024x1408, .f32⟩
  | .hbm, ⟨5, _⟩ => ⟨S60x1024x1, .f32⟩
  | .hbm, ⟨6, _⟩ => ⟨S60x1024x1408, .f32⟩
  | .hbm, ⟨7, _⟩ => ⟨S60x1024x1408, .f32⟩
  | .hbm, ⟨8, _⟩ => ⟨S60x1024x1408, .f32⟩
  | .hbm, ⟨9, _⟩ => ⟨S60x1024x1408, .f32⟩
  | .hbm, ⟨10, _⟩ => ⟨S_, .f32⟩
  | .hbm, ⟨11, _⟩ => ⟨S1408, .f32⟩
  | .hbm, ⟨12, _⟩ => ⟨S60x1024x1, .f32⟩
  | .hbm, ⟨13, _⟩ => ⟨S60x1024x1408, .f32⟩
  | .hbm, ⟨14, _⟩ => ⟨S60x1024x1408, .f32⟩
  | .hbm, ⟨15, _⟩ => ⟨S60x1024x1408, .f32⟩
  | .hbm, ⟨16, _⟩ => ⟨S60x1024x1408, .f32⟩
  | .hbm, ⟨17, _⟩ => ⟨S1x1x1408, .f32⟩
  | .hbm, ⟨18, _⟩ => ⟨S60x1024x1408, .f32⟩
  | .hbm, ⟨19, _⟩ => ⟨S60x1024x1408, .f32⟩
  | .hbm, ⟨20, _⟩ => ⟨S60x1024x1408, .f32⟩
  | .hbm, ⟨21, _⟩ => ⟨S_, .f32⟩
  | .hbm, ⟨22, _⟩ => ⟨S60x1024, .f32⟩
  | .hbm, ⟨23, _⟩ => ⟨S60x1024x1, .f32⟩
  | .hbm, ⟨24, _⟩ => ⟨S_, .f32⟩
  | .hbm, ⟨25, _⟩ => ⟨S60x1024x1, .f32⟩
  | .hbm, ⟨26, _⟩ => ⟨S60x1024x1, .f32⟩
  | .hbm, ⟨27, _⟩ => ⟨S60x1024x1408, .f32⟩
  | .hbm, ⟨28, _⟩ => ⟨S60x1024x1408, .f32⟩
  | .hbm, ⟨29, _⟩ => ⟨S60x1024x1408, .f32⟩
  | .hbm, ⟨30, _⟩ => ⟨S60x1024x1408, .f32⟩
  | .hbm, ⟨31, _⟩ => ⟨S60x1024x1408, .f32⟩
  | .hbm, ⟨32, _⟩ => ⟨S60x1024x1408, .f32⟩
  | .hbm, ⟨33, _⟩ => ⟨S_, .f32⟩
  | .hbm, ⟨34, _⟩ => ⟨S_, .f32⟩
  | .hbm, ⟨35, _⟩ => ⟨S1x1x1, .f32⟩
  | .hbm, ⟨36, _⟩ => ⟨S_, .f32⟩
  | .hbm, ⟨37, _⟩ => ⟨S1x1x1, .f32⟩
  | .hbm, ⟨38, _⟩ => ⟨S1x1x1, .f32⟩
  | .hbm, ⟨39, _⟩ => ⟨S_, .f32⟩
  | .hbm, ⟨40, _⟩ => ⟨S1x1x1, .f32⟩
  | .hbm, ⟨41, _⟩ => ⟨S1x1x1, .i1⟩
  | .hbm, ⟨42, _⟩ => ⟨S1x1x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1x1x1, .f32⟩
  | .hbm, ⟨47, _⟩ => ⟨S1x1x1, .f32⟩
  | .hbm, ⟨48, _⟩ => ⟨S1x1x1, .f32⟩
  | .hbm, ⟨49, _⟩ => ⟨S_, .f32⟩
  | .hbm, ⟨50, _⟩ => ⟨S1x1x1, .f32⟩
  | .hbm, ⟨51, _⟩ => ⟨S1x1x1, .f32⟩
  | .hbm, ⟨52, _⟩ => ⟨S_, .f32⟩
  | .hbm, ⟨53, _⟩ => ⟨S_, .f32⟩
  | .hbm, ⟨54, _⟩ => ⟨S1x1x1, .f32⟩
  | .hbm, ⟨55, _⟩ => ⟨S1x1x1, .f32⟩
  | .hbm, ⟨56, _⟩ => ⟨S_, .f32⟩
  | .hbm, ⟨57, _⟩ => ⟨S1x1x1, .f32⟩
  | .hbm, ⟨58, _⟩ => ⟨S1x1x1, .f32⟩
  | .hbm, ⟨59, _⟩ => ⟨S1x1x1, .f32⟩
  | .hbm, ⟨60, _⟩ => ⟨S_, .f32⟩
  | .hbm, ⟨61, _⟩ => ⟨S1x1x1, .f32⟩
  | .hbm, ⟨62, _⟩ => ⟨S1x1x1, .f32⟩
  | .hbm, ⟨63, _⟩ => ⟨S60x1024x1408, .f32⟩
  | .hbm, ⟨64, _⟩ => ⟨S60x1024x1408, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S60x1024x1408, .f32⟩
  | .hbm, ⟨69, _⟩ => ⟨S60x1024x1408, .f32⟩
  | .hbm, ⟨70, _⟩ => ⟨S_, .f32⟩
  | .hbm, ⟨71, _⟩ => ⟨S60x1024x1408, .f32⟩
  | .hbm, ⟨72, _⟩ => ⟨S60x1024x1408, .f32⟩
  | .hbm, ⟨73, _⟩ => ⟨S60x1024x1408, .fp8e5m2⟩
  | .local _ .vmem, ⟨0, _⟩ => ⟨S60x1024x1408, .f32⟩
  | .local _ .vmem, ⟨1, _⟩ => ⟨S60x1024x1408, .fp8e5m2⟩
  | _, _ => ⟨S60x1024x1408, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_call0_v0 : Ref sig .tc := ⟨.hbm, 53, rfl⟩
abbrev main_call0_v1 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_cst_11 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S60x1024x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S60x1024x1408 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.StatsLoop.lean ====
module

public import proofs.«01_k».proof.Proof.Gen.KernelIdeal.Frame
public import Idealize.ShloMosaic.Lib.Pipeline.Value
public import Idealize.ShloMosaic.Lib.Tactic

/-! The statistics block: what its 32-trip loop leaves in the two accumulators, as a recursion on the
    trips over plain arrays. -/

@[expose] public section

noncomputable section

open Idealize.ShloMosaic Idealize.ShloMosaic.TcCoe Idealize.SL.Sem

namespace Cert.Proof

open Cert.KernelIdeal Cert.KernelIdeal.Gen

/-- The two-axis zero offset is the constant zero. -/
theorem hz2 : (![0, 0] : Fin 2 → Nat) = fun _ => 0 := funext fun a => by fin_cases a <;> rfl

/-- The three-axis zero offset is the constant zero. -/
theorem hz3 : (![0, 0, 0] : Fin 3 → Nat) = fun _ => 0 := funext fun a => by fin_cases a <;> rfl

/-- A buffer whose last piece fills it reads that piece. -/
theorem read_writes_whole_cons {S : Shape} {e : EltTy} {sp : Space} (v : View sig .tc sp S e)
    (f : v.ty.Contents (Elt Ideal)) {off : Fin S.rank → Nat} (h : off = fun _ => 0)
    (inb : ∀ a, off a + S.size a ≤ S.size a) (w : S.Idx → Elt Ideal e) (L : List (View.Piece (Elt Ideal) S e)) :
    v.read (Elt Ideal) (v.writes (Elt Ideal) f (⟨Rect.unit off S.size inb, w⟩ :: L)) = w := by
  rw [View.read_writes_eq_canon _ _ _ (fun y => ⟨_, List.mem_cons_self, View.mem_set_unit_zero h inb y⟩),
    View.canon_cons_unit_zero h]

/-- The rows trip `k` reads from a block of activations. -/
def rows (x : Vec Ideal S1x1024x1408 .bf16) (k : Fin k0_t1_loop.trips) : Vec Ideal S1x32x1408 .bf16 :=
  View.ld x (Rect.unit (s := S1x1024x1408) (k0_off2 k) S1x32x1408.size (k0_off2_inb k))

/-- The rows trip `k` reads from the scratch column. -/
def cols (x : Vec Ideal S1024x128 .f32) (k : Fin k0_t1_loop.trips) : Vec Ideal S32x128 .f32 :=
  View.ld x (Rect.unit (s := S1024x128) (k0_off1 k) S32x128.size (k0_off1_inb k))

/-- One trip on the pair of accumulators. -/
def step0 (x0 x1 : Vec Ideal S1x1024x1408 .bf16) (x2 : Vec Ideal S1x1408 .f32) (x7 : Vec Ideal S1024x128 .f32)
    (k : Fin k0_t1_loop.trips) (s : Vec Ideal S8x1408 .f32 × Vec Ideal S8x128 .f32) :
    Vec Ideal S8x1408 .f32 × Vec Ideal S8x128 .f32 :=
  (k0_pay8 (F := Ideal) (cols x7 k) (rows x0 k) (rows x1 k) s.1,
    k0_pay4 (F := Ideal) (k0_pay9 (F := Ideal) (cols x7 k) (rows x0 k) (rows x1 k) x2) s.2)

/-- The accumulators after `n` trips, from the pair `s`. -/
def st0 (x0 x1 : Vec Ideal S1x1024x1408 .bf16) (x2 : Vec Ideal S1x1408 .f32) (x7 : Vec Ideal S1024x128 .f32)
    (s : Vec Ideal S8x1408 .f32 × Vec Ideal S8x128 .f32) : ℕ → Vec Ideal S8x1408 .f32 × Vec Ideal S8x128 .f32
  | 0 => s
  | n + 1 => if h : n < k0_t1_loop.trips then step0 x0 x1 x2 x7 ⟨n, h⟩ (st0 x0 x1 x2 x7 s n) else st0 x0 x1 x2 x7 s n

variable (c : Dev nD) (i : grid0.Coords)
  (arg1 : Memref sig .tc .vmem S1x1024x1408 .bf16) (h1 : arg1.IsWhole)
  (arg2 : Memref sig .tc .vmem S1x1024x1408 .bf16) (h2 : arg2.IsWhole)
  (arg3 : Memref sig .tc .vmem S1x1408 .f32) (h3 : arg3.IsWhole)
  (arg4 : Memref sig .tc .vmem S1x8x128 .f32) (h4 : arg4.IsWhole)
  (arg5 : Memref sig .tc .vmem S8x1408 .f32) (h5 : arg5.IsWhole)
  (arg6 : Memref sig .tc .vmem S8x128 .f32) (h6 : arg6.IsWhole)
  (arg7 : Memref sig .tc .vmem S1024x128 .f32) (h7 : arg7.IsWhole)
  (x1 : BufTy.Contents (Elt Ideal) arg1.view.ty) (x2 : BufTy.Contents (Elt Ideal) arg2.view.ty)
  (x3 : BufTy.Contents (Elt Ideal) arg3.view.ty) (x7 : BufTy.Contents (Elt Ideal) arg7.view.ty)

/-- One trip writes each accumulator whole, with `step0`'s two components. -/
theorem tripL0_eq (k : Fin k0_t1_loop.trips) (f5 : BufTy.Contents (Elt Ideal) arg5.view.ty)
    (f6 : BufTy.Contents (Elt Ideal) arg6.view.ty) :
    tripL_k0_t1 (F := Ideal) .none c none i arg1 h1 arg2 h2 arg3 h3 arg4 h4 arg5 h5 arg6 h6 arg7 h7 x1 x2 x3 x7 k f5 f6
      = ([⟨Rect.unit ![0, 0] S8x1408.size inb_S8x1408_S8x1408_0_0,
            (step0 (arg1.view.read (Elt Ideal) x1) (arg2.view.read (Elt Ideal) x2) (arg3.view.read (Elt Ideal) x3)
              (arg7.view.read (Elt Ideal) x7) k (arg5.view.read (Elt Ideal) f5, arg6.view.read (Elt Ideal) f6)).1⟩],
         [⟨Rect.unit ![0, 0] S8x128.size inb_S8x128_S8x128_0_0,
            (step0 (arg1.view.read (Elt Ideal) x1) (arg2.view.read (Elt Ideal) x2) (arg3.view.read (Elt Ideal) x3)
              (arg7.view.read (Elt Ideal) x7) k (arg5.view.read (Elt Ideal) f5, arg6.view.read (Elt Ideal) f6)).2⟩]) := by
  unfold tripL_k0_t1 trip_k0_t1
  dsimp only
  unfold trip_k0_t1.sl.r trip_k0_t1.sl.r_1 step0 rows cols
  simp only [View.readAt_eq_ld]
  rw [View.ld_unit_zero (S := S8x1408) hz2, View.ld_unit_zero (S := S8x128) hz2, View.ld_unit_zero (S := S1x1408) hz2]

/-- After `n` trips the two accumulators read as `st0`'s pair. -/
theorem pb0_read (f5 : BufTy.Contents (Elt Ideal) arg5.view.ty) (f6 : BufTy.Contents (Elt Ideal) arg6.view.ty) :
    ∀ n, n ≤ k0_t1_loop.trips →
      arg5.view.read (Elt Ideal) (arg5.view.writes (Elt Ideal) f5
        (pb_k0_t1 (F := Ideal) .none c none i arg1 h1 arg2 h2 arg3 h3 arg4 h4 arg5 h5 arg6 h6 arg7 h7 x1 x2 x3 x7 f5 f6 n).1)
        = (st0 (arg1.view.read (Elt Ideal) x1) (arg2.view.read (Elt Ideal) x2) (arg3.view.read (Elt Ideal) x3)
            (arg7.view.read (Elt Ideal) x7) (arg5.view.read (Elt Ideal) f5, arg6.view.read (Elt Ideal) f6) n).1
      ∧ arg6.view.read (Elt Ideal) (arg6.view.writes (Elt Ideal) f6
        (pb_k0_t1 (F := Ideal) .none c none i arg1 h1 arg2 h2 arg3 h3 arg4 h4 arg5 h5 arg6 h6 arg7 h7 x1 x2 x3 x7 f5 f6 n).2)
        = (st0 (arg1.view.read (Elt Ideal) x1) (arg2.view.read (Elt Ideal) x2) (arg3.view.read (Elt Ideal) x3)
            (arg7.view.read (Elt Ideal) x7) (arg5.view.read (Elt Ideal) f5, arg6.view.read (Elt Ideal) f6) n).2
  | 0, _ => ⟨rfl, rfl⟩
  | n + 1, hn => by
    have hs := pb_k0_t1_succ (F := Ideal) .none c none i arg1 h1 arg2 h2 arg3 h3 arg4 h4 arg5 h5 arg6 h6 arg7 h7 x1 x2 x3 x7
      f5 f6 ⟨n, hn⟩
    have ih := pb0_read f5 f6 n (Nat.le_of_succ_le hn)
    rw [tripL0_eq] at hs
    dsimp only at hs
    rw [ih.1, ih.2] at hs
    rw [hs]
    dsimp only
    rw [List.singleton_append, List.singleton_append, read_writes_whole_cons _ _ hz2, read_writes_whole_cons _ _ hz2]
    rw [st0, dif_pos (show n < k0_t1_loop.trips from hn)]
    exact ⟨rfl, rfl⟩

end Cert.Proof
-- ==== Proof.Payloads.lean ====
module

public import proofs.«01_k».proof.Proof.StatsLoop
public import Idealize.ShloMosaic.Lib.Pointwise.Tactic
public import Idealize.ShloMosaic.Lib.Pointwise.Reduce
public import Idealize.ShloMosaic.Lib.Pointwise.Reshape

/-! What the values stored by the two kernel bodies are, element by element. -/

@[expose] public section

noncomputable section

open Idealize.ShloMosaic Idealize.ShloMosaic.TcCoe Idealize.SL.Sem

namespace Cert.Proof

open Cert.KernelIdeal Cert.KernelIdeal.Gen

/-- The reciprocal of the row length, the real number the named constant stands for. -/
def invD : EReal := ((1 / 1408 : ℝ) : EReal)

/-- The magnitude of an extended real. -/
def eabs (x : EReal) : EReal := max x (-x)

/-- Row `dx` as the kernel computes it, from the row's `rstd`, activations, gradients and weights. -/
def rowDx (r : EReal) (x dy g : Fin 1408 → EReal) (d : Fin 1408) : EReal :=
  dy d * r * g d - x d * ((∑ j, dy j * r * g j * x j) * (r * r * invD))

/-- Row `8 g + u` of a 32-row chunk. -/
def chunkRow (g : Fin 4) (u : Fin 8) : Fin 32 := ⟨g.val * 8 + u.val, by omega⟩

/-- Lane `128 q + l` of a row. -/
def laneOf (q : Fin 11) (l : Fin 128) : Fin 1408 := ⟨q.val * 128 + l.val, by omega⟩

/-- The named constant reads as `1 / 1408`. -/
theorem named_invD : (Named.named κ "inv_d" 976891532#32 : Ideal .f32) = invD :=
  IdealRules.named_const.ideal_named_scalar _ _ _ _ rfl

/-- The sum accumulator gains, per sublane and lane, the four products of the chunk. -/
theorem pay8_apply (v58 : Vec Ideal S32x128 .f32) (v61 v65 : Vec Ideal S1x32x1408 .bf16) (v86 : Vec Ideal S8x1408 .f32)
    (u : Fin 8) (d : Fin 1408) :
    k0_pay8 (F := Ideal) v58 v61 v65 v86 (ix2 u d)
      = v86 (ix2 u d) + ∑ g : Fin 4, v65 (ix3 0 (chunkRow g u) d) * v58 (ix2 (chunkRow g u) 0) * v61 (ix3 0 (chunkRow g u) d) := by
  unfold k0_pay8 k0_pay7 k0_pay6 k0_pay5
  pointwise
  rfl

/-- The maximum accumulator is the maximum of its old value and the chunk's. -/
theorem pay4_apply (a b : Vec Ideal S8x128 .f32) (u : Fin 8) (l : Fin 128) :
    k0_pay4 (F := Ideal) a b (ix2 u l) = max (b (ix2 u l)) (a (ix2 u l)) := by
  unfold k0_pay4
  pointwise

/-- The infinity the maximum starts from. -/
theorem ofBits_neg_inf : Ideal.ofBits .f32 4286578688#32 = ⊥ := by
  simp [Ideal.ofBits, Ideal.ieee]

/-- The chunk's maximum is at most `z` exactly when every magnitude of `dx` it covers is. -/
theorem pay9_le (v58 : Vec Ideal S32x128 .f32) (v61 v65 : Vec Ideal S1x32x1408 .bf16) (v70 : Vec Ideal S1x1408 .f32)
    (u : Fin 8) (l : Fin 128) (z : EReal) :
    k0_pay9 (F := Ideal) v58 v61 v65 v70 (ix2 u l) ≤ z ↔
      ∀ (g : Fin 4) (q : Fin 11), eabs (rowDx (v58 (ix2 (chunkRow g u) 0)) (fun d => v61 (ix3 0 (chunkRow g u) d))
        (fun d => v65 (ix3 0 (chunkRow g u) d)) (fun d => v70 (ix2 0 d)) (laneOf q l)) ≤ z := by
  refine Iff.trans (b := Finset.fold max (Ideal.ofBits .f32 4286578688#32)
      (fun x : S4x8x11x128.Idx => FloatOps.absf (F := Ideal) (φ := .f32)
        (rowDx (v58 (ix2 (chunkRow (x 0) (x 1)) 0)) (fun d => v61 (ix3 0 (chunkRow (x 0) (x 1)) d))
          (fun d => v65 (ix3 0 (chunkRow (x 0) (x 1)) d)) (fun d => v70 (ix2 0 d)) (laneOf (x 2) (x 3))))
      {i | reduces_S4x8x11x128_S8x128.drop i = ix2 u l} ≤ z) ?_ ?_
  · refine iff_of_eq (congrArg (· ≤ z) ?_)
    unfold k0_pay9 k0_pay7 k0_pay6 k0_pay5
    pointwise
    rw [named_invD]
    rfl
  rw [ofBits_neg_inf]
  refine (Finset.fold_max_le z).trans ⟨fun h g q => ?_, fun h => ⟨bot_le, fun x hx => ?_⟩⟩
  · refine h.2 (ix4 g u q l) ?_
    rw [Finset.mem_filter]
    refine ⟨Finset.mem_univ _, funext fun a => ?_⟩
    fin_cases a <;> rfl
  · have e := (Finset.mem_filter.mp hx).2
    have e0 : x 1 = u := congrFun e 0
    have e1 : x 3 = l := congrFun e 1
    subst e0 e1
    exact h (x 0) (x 2)

/-- A code, before the rounding to e5m2: `dx` times the inverse scale, clipped. -/
theorem k1pay4_apply (v87 : Vec Ideal S1x1 .f32) (v143 : Vec Ideal S32x128 .f32) (v146 v150 : Vec Ideal S1x32x1408 .bf16)
    (v155 : Vec Ideal S1x1408 .f32) (r : Fin 32) (d : Fin 1408) :
    k1_pay4 (F := Ideal) v87 v143 v146 v150 v155 (ix3 0 r d)
      = min (Ideal.ofBits .f32 1197473792#32) (max (Ideal.ofBits .f32 3344957440#32)
          (rowDx (v143 (ix2 r 0)) (fun d => v146 (ix3 0 r d)) (fun d => v150 (ix3 0 r d)) (fun d => v155 (ix2 0 d)) d
            * v87 (ix2 0 0))) := by
  unfold k1_pay4
  pointwise
  rw [named_invD]
  rfl

/-- The scratch column: row `s` holds `rstd` of that row in every lane. -/
def colOf (x3 : Vec Ideal S1x8x128 .f32) : Vec Ideal S1024x128 .f32 :=
  fun y => x3 (ix3 0 (⟨(y 0).val / 128, by have : (y 0).val < 1024 := (y 0).isLt; omega⟩ : Fin 8)
    (⟨(y 0).val % 128, Nat.mod_lt _ (by norm_num)⟩ : Fin 128))

/-- Scratch rows `0` to `127`: `rstd` row `0`, one per scratch row (statistics). -/
theorem col0_0 (x3 : Vec Ideal S1x8x128 .f32) (p l : Fin 128) :
    k0_pay13 (F := Ideal) x3 (ix2 p l) = x3 (ix3 0 (⟨0, by norm_num⟩ : Fin 8) p) := by
  unfold k0_pay13 k0_pay12
  pointwise

/-- Scratch rows `128` to `255`: `rstd` row `1`, one per scratch row (statistics). -/
theorem col0_1 (x3 : Vec Ideal S1x8x128 .f32) (p l : Fin 128) :
    k0_pay14 (F := Ideal) x3 (ix2 p l) = x3 (ix3 0 (⟨1, by norm_num⟩ : Fin 8) p) := by
  unfold k0_pay14 k0_pay12
  pointwise

/-- Scratch rows `256` to `383`: `rstd` row `2`, one per scratch row (statistics). -/
theorem col0_2 (x3 : Vec Ideal S1x8x128 .f32) (p l : Fin 128) :
    k0_pay15 (F := Ideal) x3 (ix2 p l) = x3 (ix3 0 (⟨2, by norm_num⟩ : Fin 8) p) := by
  unfold k0_pay15 k0_pay12
  pointwise

/-- Scratch rows `384` to `511`: `rstd` row `3`, one per scratch row (statistics). -/
theorem col0_3 (x3 : Vec Ideal S1x8x128 .f32) (p l : Fin 128) :
    k0_pay16 (F := Ideal) x3 (ix2 p l) = x3 (ix3 0 (⟨3, by norm_num⟩ : Fin 8) p) := by
  unfold k0_pay16 k0_pay12
  pointwise

/-- Scratch rows `512` to `639`: `rstd` row `4`, one per scratch row (statistics). -/
theorem col0_4 (x3 : Vec Ideal S1x8x128 .f32) (p l : Fin 128) :
    k0_pay17 (F := Ideal) x3 (ix2 p l) = x3 (ix3 0 (⟨4, by norm_num⟩ : Fin 8) p) := by
  unfold k0_pay17 k0_pay12
  pointwise

/-- Scratch rows `640` to `767`: `rstd` row `5`, one per scratch row (statistics). -/
theorem col0_5 (x3 : Vec Ideal S1x8x128 .f32) (p l : Fin 128) :
    k0_pay1 (F := Ideal) (k0_pay18 (F := Ideal) x3) (ix2 p l) = x3 (ix3 0 (⟨5, by norm_num⟩ : Fin 8) p) := by
  unfold k0_pay1 k0_pay18 k0_pay12
  pointwise

/-- Scratch rows `768` to `895`: `rstd` row `6`, one per scratch row (statistics). -/
theorem col0_6 (x3 : Vec Ideal S1x8x128 .f32) (p l : Fin 128) :
    k0_pay2 (F := Ideal) (k0_pay12 (F := Ideal) x3) (ix2 p l) = x3 (ix3 0 (⟨6, by norm_num⟩ : Fin 8) p) := by
  unfold k0_pay2 k0_pay12
  pointwise

/-- Scratch rows `896` to `1023`: `rstd` row `7`, one per scratch row (statistics). -/
theorem col0_7 (x3 : Vec Ideal S1x8x128 .f32) (p l : Fin 128) :
    k0_pay3 (F := Ideal) (k0_pay12 (F := Ideal) x3) (ix2 p l) = x3 (ix3 0 (⟨7, by norm_num⟩ : Fin 8) p) := by
  unfold k0_pay3 k0_pay12
  pointwise

/-- Scratch rows `0` to `127`: `rstd` row `0`, one per scratch row (quantiser). -/
theorem col1_0 (x3 : Vec Ideal S1x8x128 .f32) (p l : Fin 128) :
    k1_pay15 (F := Ideal) x3 (ix2 p l) = x3 (ix3 0 (⟨0, by norm_num⟩ : Fin 8) p) := by
  unfold k1_pay15 k1_pay14
  pointwise

/-- Scratch rows `128` to `255`: `rstd` row `1`, one per scratch row (quantiser). -/
theorem col1_1 (x3 : Vec Ideal S1x8x128 .f32) (p l : Fin 128) :
    k1_pay16 (F := Ideal) x3 (ix2 p l) = x3 (ix3 0 (⟨1, by norm_num⟩ : Fin 8) p) := by
  unfold k1_pay16 k1_pay14
  pointwise

/-- Scratch rows `256` to `383`: `rstd` row `2`, one per scratch row (quantiser). -/
theorem col1_2 (x3 : Vec Ideal S1x8x128 .f32) (p l : Fin 128) :
    k1_pay17 (F := Ideal) x3 (ix2 p l) = x3 (ix3 0 (⟨2, by norm_num⟩ : Fin 8) p) := by
  unfold k1_pay17 k1_pay14
  pointwise

/-- Scratch rows `384` to `511`: `rstd` row `3`, one per scratch row (quantiser). -/
theorem col1_3 (x3 : Vec Ideal S1x8x128 .f32) (p l : Fin 128) :
    k1_pay18 (F := Ideal) x3 (ix2 p l) = x3 (ix3 0 (⟨3, by norm_num⟩ : Fin 8) p) := by
  unfold k1_pay18 k1_pay14
  pointwise

/-- Scratch rows `512` to `639`: `rstd` row `4`, one per scratch row (quantiser). -/
theorem col1_4 (x3 : Vec Ideal S1x8x128 .f32) (p l : Fin 128) :
    k1_pay19 (F := Ideal) x3 (ix2 p l) = x3 (ix3 0 (⟨4, by norm_num⟩ : Fin 8) p) := by
  unfold k1_pay19 k1_pay14
  pointwise

/-- Scratch rows `640` to `767`: `rstd` row `5`, one per scratch row (quantiser). -/
theorem col1_5 (x3 : Vec Ideal S1x8x128 .f32) (p l : Fin 128) :
    k1_pay1 (F := Ideal) (k1_pay20 (F := Ideal) x3) (ix2 p l) = x3 (ix3 0 (⟨5, by norm_num⟩ : Fin 8) p) := by
  unfold k1_pay1 k1_pay20 k1_pay14
  pointwise

/-- Scratch rows `768` to `895`: `rstd` row `6`, one per scratch row (quantiser). -/
theorem col1_6 (x3 : Vec Ideal S1x8x128 .f32) (p l : Fin 128) :
    k1_pay2 (F := Ideal) (k1_pay14 (F := Ideal) x3) (ix2 p l) = x3 (ix3 0 (⟨6, by norm_num⟩ : Fin 8) p) := by
  unfold k1_pay2 k1_pay14
  pointwise

/-- Scratch rows `896` to `1023`: `rstd` row `7`, one per scratch row (quantiser). -/
theorem col1_7 (x3 : Vec Ideal S1x8x128 .f32) (p l : Fin 128) :
    k1_pay3 (F := Ideal) (k1_pay14 (F := Ideal) x3) (ix2 p l) = x3 (ix3 0 (⟨7, by norm_num⟩ : Fin 8) p) := by
  unfold k1_pay3 k1_pay14
  pointwise

/-- The sum accumulator starts at zero. -/
theorem pay10_apply (y : S8x1408.Idx) : k0_pay10 (F := Ideal) y = 0 := by
  rw [eq_ix2 y]
  unfold k0_pay10
  pointwise

/-- The maximum accumulator starts at zero. -/
theorem pay11_apply (y : S8x128.Idx) : k0_pay11 (F := Ideal) y = 0 := by
  rw [eq_ix2 y]
  unfold k0_pay11
  pointwise

end Cert.Proof
-- ==== Proof.StatsPoint.lean ====
module

public import proofs.«01_k».proof.Proof.Payloads

/-! The statistics block: what one grid point leaves in the two accumulators, element by element. -/

@[expose] public section

noncomputable section

open Idealize.ShloMosaic Idealize.ShloMosaic.TcCoe Idealize.SL.Sem

namespace Cert.Proof

open Cert.KernelIdeal Cert.KernelIdeal.Gen

/-- A row number as a row of a 1024-row block. -/
def rowN (n : ℕ) : Fin 1024 := ⟨n % 1024, Nat.mod_lt _ (by norm_num)⟩

/-- `rstd` of row `s` of a block, from the block's 8 by 128 layout. -/
def blkR (x3 : Vec Ideal S1x8x128 .f32) (s : Fin 1024) : EReal :=
  x3 (ix3 0 (⟨s.val / 128, by omega⟩ : Fin 8) (⟨s.val % 128, Nat.mod_lt _ (by norm_num)⟩ : Fin 128))

/-- A block's contribution of row `s` to `dgamma` at lane `d`. -/
def blkDg (x0 x1 : Vec Ideal S1x1024x1408 .bf16) (x3 : Vec Ideal S1x8x128 .f32) (s : Fin 1024) (d : Fin 1408) : EReal :=
  x1 (ix3 0 s d) * blkR x3 s * x0 (ix3 0 s d)

/-- A block's `dx` at row `s`, lane `d`, as the kernel computes it. -/
def blkDx (x0 x1 : Vec Ideal S1x1024x1408 .bf16) (x2 : Vec Ideal S1x1408 .f32) (x3 : Vec Ideal S1x8x128 .f32)
    (s : Fin 1024) (d : Fin 1408) : EReal :=
  rowDx (blkR x3 s) (fun j => x0 (ix3 0 s j)) (fun j => x1 (ix3 0 s j)) (fun j => x2 (ix2 0 j)) d

/-- The loop makes 32 trips. -/
theorem trips0 : k0_t1_loop.trips = 32 := by decide +kernel

/-- Row `r` of trip `k`'s rows is row `32 k + r` of the block. -/
theorem rows_apply (x : Vec Ideal S1x1024x1408 .bf16) (k : Fin k0_t1_loop.trips) (r : Fin 32) (d : Fin 1408) :
    rows x k (ix3 0 r d) = x (ix3 0 (rowN (32 * k.val + r.val)) d) := by
  have hk : k.val < 32 := lt_of_lt_of_eq k.isLt trips0
  refine congrArg x (funext fun a => Fin.ext ?_)
  show k0_off2 k a + 1 * (ix3 (0 : Fin 1) r d a).val = _
  rw [k0_off2_eq]
  fin_cases a
  · rfl
  · show 32 * k.val + 1 * r.val = (32 * k.val + r.val) % 1024
    omega
  · show 0 + 1 * d.val = d.val
    omega

/-- Row `r` of trip `k`'s scratch rows holds `rstd` of row `32 k + r` of the block. -/
theorem cols_apply (x3 : Vec Ideal S1x8x128 .f32) (k : Fin k0_t1_loop.trips) (r : Fin 32) (l : Fin 128) :
    cols (colOf x3) k (ix2 r l) = blkR x3 (rowN (32 * k.val + r.val)) := by
  have hk : k.val < 32 := lt_of_lt_of_eq k.isLt trips0
  have e : (Rect.unit (s := S1024x128) (k0_off1 k) S32x128.size (k0_off1_inb k)).idx (ix2 r l)
      = ix2 (rowN (32 * k.val + r.val)) l := by
    refine funext fun a => Fin.ext ?_
    show k0_off1 k a + 1 * (ix2 r l a).val = _
    rw [k0_off1_eq]
    fin_cases a
    · show 32 * k.val + 1 * r.val = (32 * k.val + r.val) % 1024
      omega
    · show 0 + 1 * l.val = l.val
      omega
  show colOf x3 ((Rect.unit (s := S1024x128) (k0_off1 k) S32x128.size (k0_off1_inb k)).idx (ix2 r l)) = _
  rw [e]
  rfl

/-- The trips' contribution to the sum accumulator. -/
theorem st0_sum (x0 x1 : Vec Ideal S1x1024x1408 .bf16) (x2 : Vec Ideal S1x1408 .f32) (x3 : Vec Ideal S1x8x128 .f32)
    (s : Vec Ideal S8x1408 .f32 × Vec Ideal S8x128 .f32) (u : Fin 8) (d : Fin 1408) :
    ∀ n, n ≤ k0_t1_loop.trips → (st0 x0 x1 x2 (colOf x3) s n).1 (ix2 u d)
      = s.1 (ix2 u d) + ∑ k ∈ Finset.range n, ∑ g : Fin 4, blkDg x0 x1 x3 (rowN (32 * k + (chunkRow g u).val)) d
  | 0, _ => by rw [Finset.range_zero, Finset.sum_empty, add_zero]; rfl
  | n + 1, hn => by
    have ih := st0_sum x0 x1 x2 x3 s u d n (Nat.le_of_succ_le hn)
    rw [st0, dif_pos (show n < k0_t1_loop.trips from hn), step0]
    dsimp only
    rw [pay8_apply, ih, Finset.sum_range_succ, add_assoc]
    refine congrArg (fun t => s.1 (ix2 u d) + (_ + t)) (Finset.sum_congr rfl fun g _ => ?_)
    rw [rows_apply, rows_apply, cols_apply]
    rfl

/-- The trips' contribution to the maximum accumulator. -/
theorem st0_max (x0 x1 : Vec Ideal S1x1024x1408 .bf16) (x2 : Vec Ideal S1x1408 .f32) (x3 : Vec Ideal S1x8x128 .f32)
    (s : Vec Ideal S8x1408 .f32 × Vec Ideal S8x128 .f32) (u : Fin 8) (l : Fin 128) (z : EReal) :
    ∀ n, n ≤ k0_t1_loop.trips → ((st0 x0 x1 x2 (colOf x3) s n).2 (ix2 u l) ≤ z ↔
      s.2 (ix2 u l) ≤ z ∧ ∀ k < n, ∀ (g : Fin 4) (q : Fin 11),
        eabs (blkDx x0 x1 x2 x3 (rowN (32 * k + (chunkRow g u).val)) (laneOf q l)) ≤ z)
  | 0, _ => ⟨fun h => ⟨h, fun k hk => absurd hk (Nat.not_lt_zero k)⟩, fun h => h.1⟩
  | n + 1, hn => by
    have ih := st0_max x0 x1 x2 x3 s u l z n (Nat.le_of_succ_le hn)
    have hp : (k0_pay9 (F := Ideal) (cols (colOf x3) ⟨n, hn⟩) (rows x0 ⟨n, hn⟩) (rows x1 ⟨n, hn⟩) x2 (ix2 u l) ≤ z) ↔
        ∀ (g : Fin 4) (q : Fin 11), eabs (blkDx x0 x1 x2 x3 (rowN (32 * n + (chunkRow g u).val)) (laneOf q l)) ≤ z := by
      rw [pay9_le]
      refine forall_congr' fun g => forall_congr' fun q => iff_of_eq (congrArg (fun t => eabs t ≤ z) ?_)
      unfold blkDx
      rw [cols_apply]
      congr 1
      · funext j; exact rows_apply x0 ⟨n, hn⟩ _ j
      · funext j; exact rows_apply x1 ⟨n, hn⟩ _ j
    rw [st0, dif_pos (show n < k0_t1_loop.trips from hn), step0]
    dsimp only
    rw [pay4_apply, max_le_iff, ih, hp]
    constructor
    · rintro ⟨⟨h1, h2⟩, h3⟩
      refine ⟨h1, fun k hk => ?_⟩
      rcases Nat.lt_succ_iff_lt_or_eq.mp hk with h | rfl
      · exact h2 k h
      · exact h3
    · rintro ⟨h1, h2⟩
      exact ⟨⟨h1, fun k hk => h2 k (Nat.lt_succ_of_lt hk)⟩, h2 n (Nat.lt_succ_self n)⟩

/-- A point's contribution to the sum accumulator at sublane `u`, lane `d`. -/
def ptSum (x0 x1 : Vec Ideal S1x1024x1408 .bf16) (x3 : Vec Ideal S1x8x128 .f32) (u : Fin 8) (d : Fin 1408) : EReal :=
  ∑ k ∈ Finset.range 32, ∑ g : Fin 4, blkDg x0 x1 x3 (rowN (32 * k + (chunkRow g u).val)) d

/-- Every magnitude of `dx` a point covers at sublane `u`, lane `l` is at most `z`. -/
def PtLe (x0 x1 : Vec Ideal S1x1024x1408 .bf16) (x2 : Vec Ideal S1x1408 .f32) (x3 : Vec Ideal S1x8x128 .f32)
    (u : Fin 8) (l : Fin 128) (z : EReal) : Prop :=
  ∀ k < 32, ∀ (g : Fin 4) (q : Fin 11), eabs (blkDx x0 x1 x2 x3 (rowN (32 * k + (chunkRow g u).val)) (laneOf q l)) ≤ z

variable (c : Dev nD) (i : grid0.Coords)
  (arg1 : Memref sig .tc .vmem S1x1024x1408 .bf16) (h1 : arg1.IsWhole)
  (arg2 : Memref sig .tc .vmem S1x1024x1408 .bf16) (h2 : arg2.IsWhole)
  (arg3 : Memref sig .tc .vmem S1x1408 .f32) (h3 : arg3.IsWhole)
  (arg4 : Memref sig .tc .vmem S1x8x128 .f32) (h4 : arg4.IsWhole)
  (arg5 : Memref sig .tc .vmem S8x1408 .f32) (h5 : arg5.IsWhole)
  (arg6 : Memref sig .tc .vmem S8x128 .f32) (h6 : arg6.IsWhole)
  (arg7 : Memref sig .tc .vmem S1024x128 .f32) (h7 : arg7.IsWhole)
  (x0 x1 : Vec Ideal S1x1024x1408 .bf16) (x2 : Vec Ideal S1x1408 .f32) (x3 : Vec Ideal S1x8x128 .f32)
  (x4 : Vec Ideal S8x1408 .f32) (x5 : Vec Ideal S8x128 .f32)

/-- An index in the scratch rows `128 m` to `128 m + 127`. -/
theorem col_piece (x3 : Vec Ideal S1x8x128 .f32) (m : ℕ) (hm : m < 8) (inb : ∀ a, (![128 * m, 0] : Fin 2 → ℕ) a + S128x128.size a ≤ S1024x128.size a)
    (w : Vec Ideal S128x128 .f32) (hw : ∀ p l : Fin 128, w (ix2 p l) = x3 (ix3 0 (⟨m, hm⟩ : Fin 8) p))
    (x : (Rect.unit (s := S1024x128) ![128 * m, 0] S128x128.size inb).shape.Idx) :
    w x = colOf x3 ((Rect.unit (s := S1024x128) ![128 * m, 0] S128x128.size inb).emb x) := by
  have e : (x : S128x128.Idx) = ix2 (x 0) (x 1) := eq_ix2 x
  refine ((congrArg w e).trans (hw (x 0) (x 1))).trans (congrArg x3 (funext fun a => Fin.ext ?_))
  have hx : (x 0).val < 128 := (x 0).isLt
  fin_cases a
  · rfl
  · show m = (128 * m + 1 * (x 0).val) / 128
    omega
  · show (x 0).val = (128 * m + 1 * (x 0).val) % 128
    omega

/-- The scratch column after its eight stores is `colOf` of the `rstd` block. -/
theorem col_read (f : BufTy.Contents (Elt Ideal) arg7.view.ty) :
    arg7.view.read (Elt Ideal) (arg7.view.writes (Elt Ideal) f (kernelRun0_A.sl.HS0_8 (F := Ideal) c arg4 h4 x3)) = colOf x3 := by
  sl_unfold_words
  rw [View.readAt_eq_ld, View.ld_unit_zero (S := S1x8x128) hz3, h4.read_unread]
  funext y
  have hy : (y 0).val < 1024 := (y 0).isLt
  have hl : (y 1).val < 128 := (y 1).isLt
  refine View.read_writes_apply_of_pieces _ _ (colOf x3) _ ?_ y ?_
  · intro p hp
    simp only [List.mem_cons, List.not_mem_nil, or_false] at hp
    rcases hp with rfl | rfl | rfl | rfl | rfl | rfl | rfl | rfl
    · exact col_piece x3 7 (by norm_num) inb_S1024x128_S128x128_896_0 _ (col0_7 x3)
    · exact col_piece x3 6 (by norm_num) inb_S1024x128_S128x128_768_0 _ (col0_6 x3)
    · exact col_piece x3 5 (by norm_num) inb_S1024x128_S128x128_640_0 _ (col0_5 x3)
    · exact col_piece x3 4 (by norm_num) inb_S1024x128_S128x128_512_0 _ (col0_4 x3)
    · exact col_piece x3 3 (by norm_num) inb_S1024x128_S128x128_384_0 _ (col0_3 x3)
    · exact col_piece x3 2 (by norm_num) inb_S1024x128_S128x128_256_0 _ (col0_2 x3)
    · exact col_piece x3 1 (by norm_num) inb_S1024x128_S128x128_128_0 _ (col0_1 x3)
    · exact col_piece x3 0 (by norm_num) inb_S1024x128_S128x128_0_0 _ (col0_0 x3)
  · simp only [List.exists_mem_cons_iff, Rect.mem_set_unit, List.not_mem_nil, false_and, exists_false, or_false, Fin.forall_fin_two]
    show (896 ≤ (y 0).val ∧ (y 0).val < 896 + 128) ∧ (0 ≤ (y 1).val ∧ (y 1).val < 0 + 128) ∨
      (768 ≤ (y 0).val ∧ (y 0).val < 768 + 128) ∧ (0 ≤ (y 1).val ∧ (y 1).val < 0 + 128) ∨
      (640 ≤ (y 0).val ∧ (y 0).val < 640 + 128) ∧ (0 ≤ (y 1).val ∧ (y 1).val < 0 + 128) ∨
      (512 ≤ (y 0).val ∧ (y 0).val < 512 + 128) ∧ (0 ≤ (y 1).val ∧ (y 1).val < 0 + 128) ∨
      (384 ≤ (y 0).val ∧ (y 0).val < 384 + 128) ∧ (0 ≤ (y 1).val ∧ (y 1).val < 0 + 128) ∨
      (256 ≤ (y 0).val ∧ (y 0).val < 256 + 128) ∧ (0 ≤ (y 1).val ∧ (y 1).val < 0 + 128) ∨
      (128 ≤ (y 0).val ∧ (y 0).val < 128 + 128) ∧ (0 ≤ (y 1).val ∧ (y 1).val < 0 + 128) ∨
      (0 ≤ (y 0).val ∧ (y 0).val < 0 + 128) ∧ (0 ≤ (y 1).val ∧ (y 1).val < 0 + 128)
    omega

/-- The same at the later points. -/
theorem col_read_B (f : BufTy.Contents (Elt Ideal) arg7.view.ty) :
    arg7.view.read (Elt Ideal) (arg7.view.writes (Elt Ideal) f (kernelRun0_B.sl.HS0_8 (F := Ideal) c arg4 h4 x3)) = colOf x3 :=
  (congrArg (fun L => arg7.view.read (Elt Ideal) (arg7.view.writes (Elt Ideal) f L))
    (show kernelRun0_B.sl.HS0_8 (F := Ideal) c arg4 h4 x3 = kernelRun0_A.sl.HS0_8 (F := Ideal) c arg4 h4 x3 from rfl)).trans
    (col_read c arg4 h4 arg7 x3 f)

/-- The first point's sum accumulator. -/
theorem out0_A_4_apply (hc : cond0_0 i) (u : Fin 8) (d : Fin 1408) :
    out0_A_4 (F := Ideal) c i arg1 h1 arg2 h2 arg3 h3 arg4 h4 arg5 h5 arg6 h6 arg7 h7 hc x0 x1 x2 x3 (ix2 u d)
      = ptSum x0 x1 x3 u d := by
  unfold out0_A_4
  rw [View.read_writes_of_cover VO0_4 VO0_4.junk arg5.view arg5.view.junk _
    (cover0_A_4 (F := Ideal) c i arg1 h1 arg2 h2 arg3 h3 arg4 h4 arg5 h5 arg6 h6 arg7 h7 hc x0 x1 x2 x3)]
  unfold kernelRun0_A
  dsimp only
  rw [View.writes_append]
  refine (congrFun (pb0_read c i arg1 h1 arg2 h2 arg3 h3 arg4 h4 arg5 h5 arg6 h6 arg7 h7 _ _ _ _ _ _ _ le_rfl).1 _).trans ?_
  rw [h1.read_unread, h2.read_unread, h3.read_unread, col_read, st0_sum _ _ _ _ _ _ _ _ le_rfl, trips0]
  unfold ptSum
  rw [show kernelRun0_A.sl.H4_1 (F := Ideal) = [⟨Rect.unit ![0, 0] S8x1408.size inb_S8x1408_S8x1408_0_0, k0_pay10 (F := Ideal)⟩] from by sl_unfold_words; rfl,
    read_writes_whole_cons _ _ hz2]
  dsimp only
  rw [pay10_apply, zero_add]

/-- The first point's maximum accumulator. -/
theorem out0_A_5_le (hc : cond0_0 i) (u : Fin 8) (l : Fin 128) (z : EReal) :
    out0_A_5 (F := Ideal) c i arg1 h1 arg2 h2 arg3 h3 arg4 h4 arg5 h5 arg6 h6 arg7 h7 hc x0 x1 x2 x3 (ix2 u l) ≤ z
      ↔ 0 ≤ z ∧ PtLe x0 x1 x2 x3 u l z := by
  unfold out0_A_5
  rw [View.read_writes_of_cover VO0_5 VO0_5.junk arg6.view arg6.view.junk _
    (cover0_A_5 (F := Ideal) c i arg1 h1 arg2 h2 arg3 h3 arg4 h4 arg5 h5 arg6 h6 arg7 h7 hc x0 x1 x2 x3)]
  unfold kernelRun0_A
  dsimp only
  rw [View.writes_append]
  refine (iff_of_eq (congrArg (· ≤ z) (congrFun (pb0_read c i arg1 h1 arg2 h2 arg3 h3 arg4 h4 arg5 h5 arg6 h6 arg7 h7 _ _ _ _ _ _ _ le_rfl).2 _))).trans ?_
  rw [h1.read_unread, h2.read_unread, h3.read_unread, col_read, st0_max _ _ _ _ _ _ _ _ _ le_rfl, trips0]
  unfold PtLe
  rw [show kernelRun0_A.sl.H5_1 (F := Ideal) = [⟨Rect.unit ![0, 0] S8x128.size inb_S8x128_S8x128_0_0, k0_pay11 (F := Ideal)⟩] from by sl_unfold_words; rfl,
    read_writes_whole_cons _ _ hz2]
  dsimp only
  rw [pay11_apply]

/-- A later point's sum accumulator, from what the point before left. -/
theorem out0_B_4_apply (hc : ¬cond0_0 i) (u : Fin 8) (d : Fin 1408) :
    out0_B_4 (F := Ideal) c i arg1 h1 arg2 h2 arg3 h3 arg4 h4 arg5 h5 arg6 h6 arg7 h7 hc x0 x1 x2 x3 x4 x5 (ix2 u d)
      = x4 (ix2 u d) + ptSum x0 x1 x3 u d := by
  unfold out0_B_4
  rw [View.read_writes_of_cover VO0_4 VO0_4.junk arg5.view (h5.unread x4) _
    (cover0_B_4 (F := Ideal) c i arg1 h1 arg2 h2 arg3 h3 arg4 h4 arg5 h5 arg6 h6 arg7 h7 hc x0 x1 x2 x3 x4 x5)]
  unfold kernelRun0_B
  dsimp only
  refine (congrFun (pb0_read c i arg1 h1 arg2 h2 arg3 h3 arg4 h4 arg5 h5 arg6 h6 arg7 h7 _ _ _ _ _ _ _ le_rfl).1 _).trans ?_
  rw [h1.read_unread, h2.read_unread, h3.read_unread, h5.read_unread, h6.read_unread, col_read_B,
    st0_sum _ _ _ _ _ _ _ _ le_rfl, trips0]
  rfl

/-- A later point's maximum accumulator, from what the point before left. -/
theorem out0_B_5_le (hc : ¬cond0_0 i) (u : Fin 8) (l : Fin 128) (z : EReal) :
    out0_B_5 (F := Ideal) c i arg1 h1 arg2 h2 arg3 h3 arg4 h4 arg5 h5 arg6 h6 arg7 h7 hc x0 x1 x2 x3 x4 x5 (ix2 u l) ≤ z
      ↔ x5 (ix2 u l) ≤ z ∧ PtLe x0 x1 x2 x3 u l z := by
  unfold out0_B_5
  rw [View.read_writes_of_cover VO0_5 VO0_5.junk arg6.view (h6.unread x5) _
    (cover0_B_5 (F := Ideal) c i arg1 h1 arg2 h2 arg3 h3 arg4 h4 arg5 h5 arg6 h6 arg7 h7 hc x0 x1 x2 x3 x4 x5)]
  unfold kernelRun0_B
  dsimp only
  refine (iff_of_eq (congrArg (· ≤ z) (congrFun (pb0_read c i arg1 h1 arg2 h2 arg3 h3 arg4 h4 arg5 h5 arg6 h6 arg7 h7 _ _ _ _ _ _ _ le_rfl).2 _))).trans ?_
  rw [h1.read_unread, h2.read_unread, h3.read_unread, h5.read_unread, h6.read_unread, col_read_B,
    st0_max _ _ _ _ _ _ _ _ _ le_rfl, trips0]
  rfl

end Cert.Proof
-- ==== Proof.StatsArr.lean ====
module

public import proofs.«01_k».proof.Proof.StatsPoint

/-! The statistics call: what its two result arrays hold after all sixty grid points. -/

@[expose] public section

noncomputable section

open Idealize.ShloMosaic Idealize.ShloMosaic.TcCoe Idealize.SL.Sem

namespace Cert.Proof

open Cert.KernelIdeal Cert.KernelIdeal.Gen

/-- A grid point number as a point. -/
def ptN (n : ℕ) : Fin 60 := ⟨n % 60, Nat.mod_lt _ (by norm_num)⟩

/-- Batch `b` of an activation array, as a block. -/
def blockX (X : Vec Ideal S60x1024x1408 .bf16) (b : Fin 60) : Vec Ideal S1x1024x1408 .bf16 := fun y => X (ix3 b (y 1) (y 2))

/-- Batch `b` of the laid-out `rstd`, as a block. -/
def blockR (R : Vec Ideal S60x8x128 .f32) (b : Fin 60) : Vec Ideal S1x8x128 .f32 := fun y => R (ix3 b (y 1) (y 2))

/-- Where each window of the statistics call is placed at point `t`. -/
theorem idx_facts0 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0) :=
  (by decide +kernel : ∀ t : Fin grid0.N, _)

variable (V : (c : Dev nD) → (b : Ref sig .tc) → Buf (Elt Ideal) ((c : Thread nD τ).loc b))

/-- Window 0's block at point `t` is batch `t` of the activations. -/
theorem iblk0_0_eq (c : Dev nD) (t : Fin cfg0.N) : iblk0 V c 0 t = blockX (V c main_arg0) (ptN t.val) := by
  obtain ⟨⟨e0, e1, e2⟩, _⟩ := idx_facts0 t
  have ht : t.val < 60 := lt_of_lt_of_eq t.isLt N_0
  funext y
  show V c main_arg0 (((cfg0.win 0).blk t).view.emb y) = V c main_arg0 (ix3 (ptN t.val) (y 1) (y 2))
  refine congrArg (V c main_arg0) (funext fun a => Fin.ext ?_)
  have hy : (y 0).val < 1 := (y 0).isLt
  match a with
  | ⟨0, _⟩ => show win0_0.index t (0 : Fin 3) * 1 + 1 * (y 0).val = t.val % 60; omega
  | ⟨1, _⟩ => show win0_0.index t (1 : Fin 3) * 1024 + 1 * (y 1).val = (y 1).val; omega
  | ⟨2, _⟩ => show win0_0.index t (2 : Fin 3) * 1408 + 1 * (y 2).val = (y 2).val; omega

/-- Window 1's block at point `t` is batch `t` of the incoming gradients. -/
theorem iblk0_1_eq (c : Dev nD) (t : Fin cfg0.N) : iblk0 V c 1 t = blockX (V c main_arg1) (ptN t.val) := by
  obtain ⟨_, ⟨e0, e1, e2⟩, _⟩ := idx_facts0 t
  have ht : t.val < 60 := lt_of_lt_of_eq t.isLt N_0
  funext y
  show V c main_arg1 (((cfg0.win 1).blk t).view.emb y) = V c main_arg1 (ix3 (ptN t.val) (y 1) (y 2))
  refine congrArg (V c main_arg1) (funext fun a => Fin.ext ?_)
  have hy : (y 0).val < 1 := (y 0).isLt
  match a with
  | ⟨0, _⟩ => show win0_1.index t (0 : Fin 3) * 1 + 1 * (y 0).val = t.val % 60; omega
  | ⟨1, _⟩ => show win0_1.index t (1 : Fin 3) * 1024 + 1 * (y 1).val = (y 1).val; omega
  | ⟨2, _⟩ => show win0_1.index t (2 : Fin 3) * 1408 + 1 * (y 2).val = (y 2).val; omega

/-- Window 2's block is the whole weight row. -/
theorem iblk0_2_eq (c : Dev nD) (t : Fin cfg0.N) : iblk0 V c 2 t = V c main_v0 := by
  obtain ⟨_, _, ⟨e0, e1⟩, _⟩ := idx_facts0 t
  funext y
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; omega
  | ⟨1, _⟩ => show win0_2.index t (1 : Fin 2) * 1408 + 1 * (y 1).val = (y 1).val; omega

/-- Window 3's block at point `t` is batch `t` of the laid-out `rstd`. -/
theorem iblk0_3_eq (c : Dev nD) (t : Fin cfg0.N) : iblk0 V c 3 t = blockR (V c main_v1) (ptN t.val) := by
  obtain ⟨_, _, _, ⟨e0, e1, e2⟩⟩ := idx_facts0 t
  have ht : t.val < 60 := lt_of_lt_of_eq t.isLt N_0
  funext y
  show V c main_v1 (((cfg0.win 3).blk t).view.emb y) = V c main_v1 (ix3 (ptN t.val) (y 1) (y 2))
  refine congrArg (V c main_v1) (funext fun a => Fin.ext ?_)
  have hy : (y 0).val < 1 := (y 0).isLt
  match a with
  | ⟨0, _⟩ => show win0_3.index t (0 : Fin 3) * 1 + 1 * (y 0).val = t.val % 60; omega
  | ⟨1, _⟩ => show win0_3.index t (1 : Fin 3) * 8 + 1 * (y 1).val = (y 1).val; omega
  | ⟨2, _⟩ => show win0_3.index t (2 : Fin 3) * 128 + 1 * (y 2).val = (y 2).val; omega

/-- The sum accumulator after point `n`: the points' contributions up to `n`. -/
theorem outsAt0_sum (c : Dev nD) (u : Fin 8) (d : Fin 1408) : ∀ (n : ℕ) (hn : n < cfg0.N),
    (outsAt0 V c n hn).1 (ix2 u d)
      = ∑ b ∈ Finset.range (n + 1), ptSum (blockX (V c main_arg0) (ptN b)) (blockX (V c main_arg1) (ptN b)) (blockR (V c main_v1) (ptN b)) u d
  | 0, hn => by
    rw [show outsAt0 V c 0 hn = _ from outsAt0_A V c ⟨0, hn⟩ rfl]
    dsimp only
    rw [out0_A_4_apply, iblk0_0_eq, iblk0_1_eq, iblk0_3_eq, Finset.sum_range_one]
  | n + 1, hn => by
    have hN : n + 1 < 60 := lt_of_lt_of_eq hn N_0
    rw [show outsAt0 V c (n + 1) hn = _ from outsAt0_B V c ⟨n + 1, hn⟩ (by show ¬(n + 1) % 60 = 0; omega)]
    dsimp only
    rw [out0_B_4_apply, iblk0_0_eq, iblk0_1_eq, iblk0_3_eq, Finset.sum_range_succ]
    exact congrArg (· + _) (outsAt0_sum c u d n (Nat.lt_of_succ_lt hn))

/-- The maximum accumulator after point `n` is at most `z` exactly when `z` is nonnegative and bounds every magnitude so far. -/
theorem outsAt0_max (c : Dev nD) (u : Fin 8) (l : Fin 128) (z : EReal) : ∀ (n : ℕ) (hn : n < cfg0.N),
    ((outsAt0 V c n hn).2 (ix2 u l) ≤ z
      ↔ 0 ≤ z ∧ ∀ b < n + 1, PtLe (blockX (V c main_arg0) (ptN b)) (blockX (V c main_arg1) (ptN b)) (V c main_v0) (blockR (V c main_v1) (ptN b)) u l z)
  | 0, hn => by
    rw [show outsAt0 V c 0 hn = _ from outsAt0_A V c ⟨0, hn⟩ rfl]
    dsimp only
    rw [out0_A_5_le, iblk0_0_eq, iblk0_1_eq, iblk0_2_eq, iblk0_3_eq]
    refine and_congr_right fun _ => ⟨fun h b hb => ?_, fun h => h 0 (by norm_num)⟩
    obtain rfl : b = 0 := by omega
    exact h
  | n + 1, hn => by
    have hN : n + 1 < 60 := lt_of_lt_of_eq hn N_0
    have ih := outsAt0_max c u l z n (Nat.lt_of_succ_lt hn)
    rw [show outsAt0 V c (n + 1) hn = _ from outsAt0_B V c ⟨n + 1, hn⟩ (by show ¬(n + 1) % 60 = 0; omega)]
    dsimp only
    rw [out0_B_5_le, iblk0_0_eq, iblk0_1_eq, iblk0_2_eq, iblk0_3_eq]
    refine (and_congr_left' ih).trans ⟨fun h => ⟨h.1.1, fun b hb => ?_⟩, fun h => ⟨⟨h.1, fun b hb => h.2 b (by omega)⟩, h.2 (n + 1) (by omega)⟩⟩
    rcases Nat.lt_succ_iff_lt_or_eq.mp hb with h' | rfl
    · exact h.1.2 b h'
    · exact h.2

/-- The last grid point. -/
abbrev tl0 : Fin cfg0.N := ⟨59, by decide⟩

/-- What the statistics call leaves in its two arrays: the accumulators after the last point. -/
def stats (c : Dev nD) : Vec Ideal S8x1408 .f32 × Vec Ideal S8x128 .f32 := outsAt0 V c 59 (by decide)

/-- The last point writes the sums back whole. -/
theorem flushed0_4 (c : Dev nD) (t : Fin cfg0.N) (hf : (cfg0.win 4).flush t = true) :
    (dat0 V c).flushed 4 t = ((cfg0.win 4).blk t).view.read (Elt Ideal) (stats V c).1 := by
  have h3 : t.val = 59 := by have := (flush0_4 t).mp hf; have := lt_of_lt_of_eq t.isLt N_0; omega
  obtain rfl : t = tl0 := Fin.ext h3
  show (cfg0.win 4).cut (grid0.coords tl0) ((dat0 V c).after 4 tl0) = _
  rw [after0_4]
  have hz' : (fun a => win0_4.index tl0 a * main_v2_0.ty.shape.size a) = fun _ => 0 := funext fun a => by fin_cases a <;> decide
  exact (Memref.read_access_unit_zero (Elt Ideal) main_v2_0 hz' (fun a => by rw [congrFun hz' a]; simp) (stats V c).1).symm

/-- The last point writes the maxima back whole. -/
theorem flushed0_5 (c : Dev nD) (t : Fin cfg0.N) (hf : (cfg0.win 5).flush t = true) :
    (dat0 V c).flushed 5 t = ((cfg0.win 5).blk t).view.read (Elt Ideal) (stats V c).2 := by
  have h3 : t.val = 59 := by have := (flush0_5 t).mp hf; have := lt_of_lt_of_eq t.isLt N_0; omega
  obtain rfl : t = tl0 := Fin.ext h3
  show (cfg0.win 5).cut (grid0.coords tl0) ((dat0 V c).after 5 tl0) = _
  rw [after0_5]
  have hz' : (fun a => win0_5.index tl0 a * main_v2_1.ty.shape.size a) = fun _ => 0 := funext fun a => by fin_cases a <;> decide
  exact (Memref.read_access_unit_zero (Elt Ideal) main_v2_1 hz' (fun a => by rw [congrFun hz' a]; simp) (stats V c).2).symm

/-- The sums' array after the call. -/
theorem arr0_4 (c : Dev nD) : (dat0 V c).arrAt 4 cfg0.N = (stats V c).1 :=
  (dat0 V c).arrAt_eq_of_cover 4 (stats V c).1 (flushed0_4 V c) fun i =>
    ⟨tl0, (flush0_4 tl0).mpr rfl, by
      show i ∈ ((View.whole main_v2_0).slice (win0_4.rect tl0)).set
      rw [View.set_slice_whole, Rect.mem_set_unit]
      intro a
      have h0 : (i 0 : Nat) < 8 := (i 0).isLt
      have h1 : (i 1 : Nat) < 1408 := (i 1).isLt
      match a with
      | ⟨0, _⟩ => show win0_4.index tl0 0 * win0_4.size 0 ≤ (i 0 : Nat) ∧ (i 0 : Nat) < win0_4.index tl0 0 * win0_4.size 0 + win0_4.xsize (grid0.coords tl0) 0
                  rw [show win0_4.index tl0 0 * win0_4.size 0 = 0 from by decide +kernel, show win0_4.xsize (grid0.coords tl0) 0 = 8 from by decide +kernel]; omega
      | ⟨1, _⟩ => show win0_4.index tl0 1 * win0_4.size 1 ≤ (i 1 : Nat) ∧ (i 1 : Nat) < win0_4.index tl0 1 * win0_4.size 1 + win0_4.xsize (grid0.coords tl0) 1
                  rw [show win0_4.index tl0 1 * win0_4.size 1 = 0 from by decide +kernel, show win0_4.xsize (grid0.coords tl0) 1 = 1408 from by decide +kernel]; omega⟩

/-- The maxima's array after the call. -/
theorem arr0_5 (c : Dev nD) : (dat0 V c).arrAt 5 cfg0.N = (stats V c).2 :=
  (dat0 V c).arrAt_eq_of_cover 5 (stats V c).2 (flushed0_5 V c) fun i =>
    ⟨tl0, (flush0_5 tl0).mpr rfl, by
      show i ∈ ((View.whole main_v2_1).slice (win0_5.rect tl0)).set
      rw [View.set_slice_whole, Rect.mem_set_unit]
      intro a
      have h0 : (i 0 : Nat) < 8 := (i 0).isLt
      have h1 : (i 1 : Nat) < 128 := (i 1).isLt
      match a with
      | ⟨0, _⟩ => show win0_5.index tl0 0 * win0_5.size 0 ≤ (i 0 : Nat) ∧ (i 0 : Nat) < win0_5.index tl0 0 * win0_5.size 0 + win0_5.xsize (grid0.coords tl0) 0
                  rw [show win0_5.index tl0 0 * win0_5.size 0 = 0 from by decide +kernel, show win0_5.xsize (grid0.coords tl0) 0 = 8 from by decide +kernel]; omega
      | ⟨1, _⟩ => show win0_5.index tl0 1 * win0_5.size 1 ≤ (i 1 : Nat) ∧ (i 1 : Nat) < win0_5.index tl0 1 * win0_5.size 1 + win0_5.xsize (grid0.coords tl0) 1
                  rw [show win0_5.index tl0 1 * win0_5.size 1 = 0 from by decide +kernel, show win0_5.xsize (grid0.coords tl0) 1 = 128 from by decide +kernel]; omega⟩

end Cert.Proof
-- ==== Proof.Exponent.lean ====
module

public import Idealize.ShloMosaic.PureOps.Ideal
public import Mathlib.Analysis.SpecialFunctions.Log.Basic
public import Mathlib.Tactic.IntervalCases

/-! The bit search for a power-of-two exponent, and the exponent it finds. -/

@[expose] public section

noncomputable section

open Idealize.ShloMosaic

namespace Cert.Proof

/-- The float whose exponent field is the low bits of `f` and whose other bits are zero. -/
def fieldVal (f : BitVec 32) : EReal := Ideal.ofBits .f32 (f <<< 23#32)

/-- One step of the search: keep the bit `b` when the float it makes is still at most `y`. -/
def bstep (y : EReal) (f b : BitVec 32) : BitVec 32 := if fieldVal (f ||| b) ≤ y then f ||| b else f

/-- The exponent field found for `y`, bit by bit from the top. -/
def fieldOf (y : EReal) : BitVec 32 :=
  bstep y (bstep y (bstep y (bstep y (bstep y (bstep y (bstep y (bstep y 0#32 128#32) 64#32) 32#32) 16#32) 8#32) 4#32) 2#32) 1#32

/-- The exponent a field stands for, zero at the two reserved fields. -/
def expOf (f : BitVec 32) : BitVec 32 := if f = 0#32 ∨ f = 255#32 then 0#32 else f - 126#32

/-- The exponent of `a`'s binade, plus one; zero below the least normal number. -/
def expInt (a : ℝ) : ℤ := if a < 2 ^ (-126 : ℤ) then 0 else ⌊Real.log a / Real.log 2⌋ + 1

/-- The float with exponent field `n` and nothing else is `2 ^ (n - 127)`. -/
theorem fieldVal_ofNat (n : ℕ) (h1 : 1 ≤ n) (h2 : n ≤ 254) :
    fieldVal (BitVec.ofNat 32 n) = (((2 : ℝ) ^ ((n : ℤ) - 127) : ℝ) : EReal) := by
  have t : (BitVec.ofNat 32 n <<< 23#32).toNat = n * 2 ^ 23 := by
    rw [BitVec.shiftLeft_eq', BitVec.toNat_shiftLeft, BitVec.toNat_ofNat, Nat.shiftLeft_eq]
    show n % 2 ^ 32 * 2 ^ 23 % 2 ^ 32 = _
    omega
  have e1 : ((BitVec.ofNat 32 n <<< 23#32).extractLsb' 31 1 == 1#1) = false := by
    rw [beq_eq_false_iff_ne]
    intro h
    have := congrArg BitVec.toNat h
    rw [BitVec.extractLsb'_toNat, t, Nat.shiftRight_eq_div_pow] at this
    change n * 2 ^ 23 / 2 ^ 31 % 2 ^ 1 = 1 at this
    omega
  have e2 : ((BitVec.ofNat 32 n <<< 23#32).extractLsb' 23 8).toNat = n := by
    rw [BitVec.extractLsb'_toNat, t, Nat.shiftRight_eq_div_pow]
    omega
  have e3 : ((BitVec.ofNat 32 n <<< 23#32).extractLsb' 0 23).toNat = 0 := by
    rw [BitVec.extractLsb'_toNat, t, Nat.shiftRight_eq_div_pow]
    omega
  have e0 : ∀ b : BitVec 32, (b.extractLsb' 31 1 == 1#1) = false → (b.extractLsb' 23 8).toNat = n → (b.extractLsb' 0 23).toNat = 0 →
      Ideal.ieee 8 23 b = ((1 * (2 ^ 23 + 0 : ℕ) * (2 : ℝ) ^ ((n : ℤ) - (2 ^ (8 - 1) - 1) - (23 : ℕ)) : ℝ) : EReal) := by
    intro b b1 b2 b3
    unfold Ideal.ieee
    simp only [b1, b2, b3]
    rw [if_neg (by omega), if_neg (by omega)]
    rfl
  refine (e0 _ e1 e2 e3).trans (congrArg _ ?_)
  rw [show ((n : ℤ) - 127) = 23 + ((n : ℤ) - (2 ^ (8 - 1) - 1) - (23 : ℕ)) by norm_num, zpow_add₀ (by norm_num)]
  norm_num

/-- The all-ones field stands for infinity. -/
theorem fieldVal_255 : fieldVal 255#32 = ⊤ := by
  simp [fieldVal, Ideal.ofBits, Ideal.ieee]

/-- One step of the same search against a known field. -/
def nstep (n k j : ℕ) : ℕ := if k ||| j ≤ n then k ||| j else k

/-- One step of the bit search: where the exponent fields up to `n` are the bounds at most `y`, comparing with a bound decides whether its field is at most `n`. -/
theorem bstep_eq (y : EReal) (n : ℕ) (h : ∀ m, 1 ≤ m → m < 256 → (fieldVal (BitVec.ofNat 32 m) ≤ y ↔ m ≤ n))
    (f : BitVec 32) (k j : ℕ) (hf : f = BitVec.ofNat 32 k) (hk : k < 256) (hj : 1 ≤ j) (hj' : j < 256) :
    bstep y f (BitVec.ofNat 32 j) = BitVec.ofNat 32 (nstep n k j) ∧ nstep n k j < 256 := by
  subst hf
  have ho : k ||| j < 2 ^ 8 := Nat.or_lt_two_pow hk hj'
  have hp : 1 ≤ k ||| j := hj.trans Nat.right_le_or
  have e : BitVec.ofNat 32 k ||| BitVec.ofNat 32 j = BitVec.ofNat 32 (k ||| j) := by
    apply BitVec.eq_of_toNat_eq
    rw [BitVec.toNat_or, BitVec.toNat_ofNat, BitVec.toNat_ofNat, BitVec.toNat_ofNat,
      Nat.mod_eq_of_lt (by omega), Nat.mod_eq_of_lt (by omega), Nat.mod_eq_of_lt (by omega)]
  unfold bstep nstep
  rw [e, if_congr (h _ hp ho) rfl rfl]
  split
  · exact ⟨rfl, ho⟩
  · exact ⟨rfl, hk⟩

/-- The eight steps of the bit search find every field below 256. -/
theorem nsearch : ∀ n : Fin 256,
    nstep n (nstep n (nstep n (nstep n (nstep n (nstep n (nstep n (nstep n 0 128) 64) 32) 16) 8) 4) 2) 1 = n := by
  unfold nstep
  decide +kernel

/-- The search finds the largest field whose float is at most `y`. -/
theorem fieldOf_eq (y : EReal) (n : ℕ) (hn : n < 256)
    (h : ∀ m, 1 ≤ m → m < 256 → (fieldVal (BitVec.ofNat 32 m) ≤ y ↔ m ≤ n)) : fieldOf y = BitVec.ofNat 32 n := by
  have h1 := bstep_eq y n h 0#32 0 128 rfl (by norm_num) (by norm_num) (by norm_num)
  have h2 := bstep_eq y n h _ _ 64 h1.1 h1.2 (by norm_num) (by norm_num)
  have h3 := bstep_eq y n h _ _ 32 h2.1 h2.2 (by norm_num) (by norm_num)
  have h4 := bstep_eq y n h _ _ 16 h3.1 h3.2 (by norm_num) (by norm_num)
  have h5 := bstep_eq y n h _ _ 8 h4.1 h4.2 (by norm_num) (by norm_num)
  have h6 := bstep_eq y n h _ _ 4 h5.1 h5.2 (by norm_num) (by norm_num)
  have h7 := bstep_eq y n h _ _ 2 h6.1 h6.2 (by norm_num) (by norm_num)
  have h8 := bstep_eq y n h _ _ 1 h7.1 h7.2 (by norm_num) (by norm_num)
  exact h8.1.trans (congrArg (BitVec.ofNat 32) (nsearch ⟨n, hn⟩))

/-- A power of two is at most `a` exactly when its exponent is at most `⌊log₂ a⌋`. -/
theorem zpow_le_iff (a : ℝ) (ha : 0 < a) (k : ℤ) : (2 : ℝ) ^ k ≤ a ↔ k ≤ ⌊Real.log a / Real.log 2⌋ := by
  rw [Int.le_floor, le_div_iff₀ (Real.log_pos (by norm_num)), ← Real.log_zpow,
    Real.log_le_log_iff (by positivity) ha]

/-- For a number below `2 ^ 113`, the scale and its inverse built from the search are the two powers of two
    of the exponent `expInt`. -/
theorem scale_eq (a : ℝ) (h : a < 2 ^ (113 : ℤ)) :
    fieldVal (expOf (fieldOf (a : EReal)) + 127#32) = (((2 : ℝ) ^ expInt a : ℝ) : EReal)
      ∧ fieldVal (0#32 - expOf (fieldOf (a : EReal)) + 127#32) = (((2 : ℝ) ^ (-expInt a) : ℝ) : EReal) := by
  have h254 : ∀ m : ℕ, 1 ≤ m → m < 256 → m = 255 ∨ fieldVal (BitVec.ofNat 32 m) = (((2 : ℝ) ^ ((m : ℤ) - 127) : ℝ) : EReal) := by
    intro m h1 h2
    rcases Nat.lt_or_ge m 255 with h3 | h3
    · exact .inr (fieldVal_ofNat m h1 (by omega))
    · exact .inl (by omega)
  unfold expInt
  split
  · next hs =>
    have hf : fieldOf (a : EReal) = BitVec.ofNat 32 0 := by
      refine fieldOf_eq _ 0 (by norm_num) fun m h1 h2 => ⟨fun hle => ?_, fun hle => by omega⟩
      exfalso
      rcases h254 m h1 h2 with rfl | e
      · rw [fieldVal_255] at hle
        exact absurd hle (not_le.mpr (EReal.coe_lt_top a))
      · rw [e, EReal.coe_le_coe_iff] at hle
        have : (2 : ℝ) ^ (-126 : ℤ) ≤ 2 ^ ((m : ℤ) - 127) := zpow_le_zpow_right₀ (by norm_num) (by omega)
        linarith
    rw [hf]
    have e : expOf (BitVec.ofNat 32 0) = 0#32 := by unfold expOf; exact if_pos (.inl rfl)
    rw [e, show 0#32 + 127#32 = BitVec.ofNat 32 127 from rfl, show 0#32 - 0#32 + 127#32 = BitVec.ofNat 32 127 from rfl,
      fieldVal_ofNat 127 (by norm_num) (by norm_num)]
    norm_num
  · next hs =>
    have ha : 0 < a := lt_of_lt_of_le (by positivity) (not_lt.mp hs)
    have hlo : -126 ≤ ⌊Real.log a / Real.log 2⌋ := (zpow_le_iff a ha _).mp (not_lt.mp hs)
    have hhi : ⌊Real.log a / Real.log 2⌋ < 113 := by
      by_contra h'
      exact absurd ((zpow_le_iff a ha 113).mpr (not_lt.mp h')) (not_le.mpr h)
    obtain ⟨n, hn⟩ : ∃ n : ℕ, (n : ℤ) = ⌊Real.log a / Real.log 2⌋ + 127 := ⟨(⌊Real.log a / Real.log 2⌋ + 127).toNat, by omega⟩
    have hf : fieldOf (a : EReal) = BitVec.ofNat 32 n := by
      refine fieldOf_eq _ n (by omega) fun m h1 h2 => ?_
      rcases h254 m h1 h2 with rfl | e
      · rw [fieldVal_255]
        exact ⟨fun hle => absurd hle (not_le.mpr (EReal.coe_lt_top a)), fun hle => by omega⟩
      · rw [e, EReal.coe_le_coe_iff]
        rw [zpow_le_iff a ha]
        omega
    rw [hf]
    have e : expOf (BitVec.ofNat 32 n) = BitVec.ofNat 32 n - 126#32 := by
      unfold expOf
      refine if_neg ?_
      rintro (h' | h')
      · have := congrArg BitVec.toNat h'; rw [BitVec.toNat_ofNat, BitVec.toNat_ofNat] at this; omega
      · have := congrArg BitVec.toNat h'; rw [BitVec.toNat_ofNat, BitVec.toNat_ofNat] at this; omega
    have e1 : BitVec.ofNat 32 n - 126#32 + 127#32 = BitVec.ofNat 32 (n + 1) := by
      apply BitVec.eq_of_toNat_eq
      simp only [BitVec.toNat_add, BitVec.toNat_sub, BitVec.toNat_ofNat]
      omega
    have e2 : 0#32 - (BitVec.ofNat 32 n - 126#32) + 127#32 = BitVec.ofNat 32 (253 - n) := by
      apply BitVec.eq_of_toNat_eq
      simp only [BitVec.toNat_add, BitVec.toNat_sub, BitVec.toNat_ofNat]
      omega
    rw [e, e1, e2, fieldVal_ofNat (n + 1) (by omega) (by omega), fieldVal_ofNat (253 - n) (by omega) (by omega)]
    refine ⟨?_, ?_⟩ <;> congr 2 <;> omega

end Cert.Proof
-- ==== Proof.QuantPay.lean ====
module

public import proofs.«01_k».proof.Proof.Payloads
public import proofs.«01_k».proof.Proof.Exponent

/-! The quantiser's scalars: the scale and its inverse, from the maxima array. -/

@[expose] public section

noncomputable section

open Idealize.ShloMosaic Idealize.ShloMosaic.TcCoe Idealize.SL.Sem

namespace Cert.Proof

open Cert.KernelIdeal Cert.KernelIdeal.Gen

/-- One search step as the kernel writes it. -/
def vstep (y : FVec Ideal S1x1 .f32) (f : IVec S1x1 32) (b : BitVec 32) : IVec S1x1 32 :=
  select (cmpf .oge y (bitcastToFloat .f32 (shli (ori f (broadcast S1x1 b)) (broadcast S1x1 23#32)))) (ori f (broadcast S1x1 b)) f

/-- The kernel's step is the search's. -/
theorem vstep_apply (y : FVec Ideal S1x1 .f32) (f : IVec S1x1 32) (b : BitVec 32) (i : S1x1.Idx) :
    vstep y f b i = bstep (y i) (f i) b := by
  have h : ∀ (a : EReal) (v : BitVec 32) (g : BitVec 32),
      Scalar.select (Ideal.cmp .oge a (fieldVal v)) v g = if fieldVal v ≤ a then v else g := by
    intro a v g
    unfold Scalar.select Ideal.cmp
    by_cases h : fieldVal v ≤ a <;> simp [h]
  exact h (y i) (f i ||| b) (f i)

/-- The found field, as the kernel writes it. -/
theorem pay9_eq (v0 : Vec Ideal S8x128 .f32) :
    k1_pay9 (F := Ideal) (k1_pay5 v0) (k1_pay6 v0) (k1_pay7 v0) (k1_pay8 v0) (ix2 0 0)
      = expOf (fieldOf (k1_pay5 (F := Ideal) v0 (ix2 0 0))) := by
  have e6 : k1_pay6 (F := Ideal) v0
      = vstep (k1_pay5 v0) (vstep (k1_pay5 v0) (vstep (k1_pay5 v0) (vstep (k1_pay5 v0) (broadcast S1x1 0#32) 128#32) 64#32) 32#32) 16#32 := rfl
  have e7 : select (k1_pay8 (F := Ideal) v0) (k1_pay7 (F := Ideal) v0) (k1_pay6 (F := Ideal) v0)
      = vstep (k1_pay5 v0) (k1_pay6 (F := Ideal) v0) 8#32 := rfl
  obtain ⟨f, hf⟩ : ∃ f, vstep (k1_pay5 v0) (vstep (k1_pay5 v0) (vstep (k1_pay5 v0)
      (select (k1_pay8 (F := Ideal) v0) (k1_pay7 (F := Ideal) v0) (k1_pay6 (F := Ideal) v0)) 4#32) 2#32) 1#32 = f := ⟨_, rfl⟩
  have e9 : k1_pay9 (F := Ideal) (k1_pay5 v0) (k1_pay6 v0) (k1_pay7 v0) (k1_pay8 v0)
      = select (ori (cmpi .eq f (broadcast S1x1 0#32)) (cmpi .eq f (broadcast S1x1 255#32))) (broadcast S1x1 0#32)
          (subi f (broadcast S1x1 126#32)) := by
    rw [← hf]; rfl
  have hv : f (ix2 0 0) = fieldOf (k1_pay5 (F := Ideal) v0 (ix2 0 0)) := by
    rw [← hf, e7, e6]
    simp only [vstep_apply]
    rfl
  rw [e9]
  show (if (IntOp.ori (IntOp.cmpi .eq (f (ix2 0 0)) 0#32) (IntOp.cmpi .eq (f (ix2 0 0)) 255#32)) = 1 then 0#32 else f (ix2 0 0) - 126#32) = _
  rw [hv]
  unfold expOf
  generalize fieldOf (k1_pay5 (F := Ideal) v0 (ix2 0 0)) = g
  have hc : (IntOp.ori (IntOp.cmpi .eq g 0#32) (IntOp.cmpi .eq g 255#32) = 1) ↔ (g = 0#32 ∨ g = 255#32) := by
    by_cases h0 : g = 0#32
    · simp [IntOp.cmpi, IntOp.ori, h0]
    · by_cases h1 : g = 255#32
      · simp [IntOp.cmpi, IntOp.ori, h1]
      · have b0 : (g == 0#32) = false := beq_eq_false_iff_ne.mpr h0
        have b1 : (g == 255#32) = false := beq_eq_false_iff_ne.mpr h1
        refine iff_of_false ?_ (not_or.mpr ⟨h0, h1⟩)
        unfold IntOp.cmpi IntOp.ori
        dsimp only
        rw [b0, b1]
        decide
  exact if_congr hc rfl rfl

/-- The stored scale. -/
theorem pay10q_eq (v0 : Vec Ideal S8x128 .f32) :
    k1_pay10 (F := Ideal) (k1_pay5 v0) (k1_pay6 v0) (k1_pay7 v0) (k1_pay8 v0) (ix2 0 0)
      = fieldVal (expOf (fieldOf (k1_pay5 (F := Ideal) v0 (ix2 0 0))) + 127#32) := by
  rw [← pay9_eq]; rfl

/-- The inverse scale the codes are multiplied by. -/
theorem pay13q_eq (v0 : Vec Ideal S8x128 .f32) :
    k1_pay13 (F := Ideal) (k1_pay11 (F := Ideal) (k1_pay5 v0) (k1_pay6 v0) (k1_pay7 v0) (k1_pay8 v0)) k1_pay12 (ix2 0 0)
      = fieldVal (0#32 - expOf (fieldOf (k1_pay5 (F := Ideal) v0 (ix2 0 0))) + 127#32) := by
  rw [← pay9_eq]; rfl

/-- The number the search is run on: the largest of the maxima, times the stored reciprocal of the format's largest value. -/
theorem pay5q_eq (v0 : Vec Ideal S8x128 .f32) :
    ∃ M : EReal, k1_pay5 (F := Ideal) v0 (ix2 0 0) = M * Ideal.ofBits .f32 0x37924925#32
      ∧ ∀ z, M ≤ z ↔ ∀ (u : Fin 8) (l : Fin 128), v0 (ix2 u l) ≤ z := by
  refine ⟨Finset.fold max (Ideal.ofBits FTy.f32 4286578688#32) (fun x : Fin 8 × Fin 128 => v0 (ix2 x.1 x.2)) Finset.univ,
    by unfold k1_pay5; pointwise, fun z => ?_⟩
  rw [ofBits_neg_inf, Finset.fold_max_le]
  exact ⟨fun h u l => h.2 (u, l) (Finset.mem_univ _), fun h => ⟨bot_le, fun x _ => h x.1 x.2⟩⟩

end Cert.Proof
-- ==== Proof.QuantPoint.lean ====
module

public import proofs.«01_k».proof.Proof.StatsPoint
public import proofs.«01_k».proof.Proof.QuantPay

/-! The quantiser block: what one grid point leaves in the code block and the scale. -/

@[expose] public section

noncomputable section

open Idealize.ShloMosaic Idealize.ShloMosaic.TcCoe Idealize.SL.Sem

namespace Cert.Proof

open Cert.KernelIdeal Cert.KernelIdeal.Gen

/-- The code at row `s`, lane `d` of a block: `dx` times the inverse scale `v`, clipped to the format's range. -/
def codeAt (x0 x1 : Vec Ideal S1x1024x1408 .bf16) (x2 : Vec Ideal S1x1408 .f32) (x3 : Vec Ideal S1x8x128 .f32) (v : EReal)
    (s : Fin 1024) (d : Fin 1408) : EReal :=
  min (Ideal.ofBits .f32 1197473792#32) (max (Ideal.ofBits .f32 3344957440#32) (blkDx x0 x1 x2 x3 s d * v))

/-- The scale stored for the maxima `x4`. -/
def scaleOf (x4 : Vec Ideal S8x128 .f32) : EReal :=
  fieldVal (expOf (fieldOf (k1_pay5 (F := Ideal) x4 (ix2 0 0))) + 127#32)

/-- The inverse scale used for the maxima `x4`. -/
def invOf (x4 : Vec Ideal S8x128 .f32) : EReal :=
  fieldVal (0#32 - expOf (fieldOf (k1_pay5 (F := Ideal) x4 (ix2 0 0))) + 127#32)

/-- The loop makes 32 trips. -/
theorem trips1 : k1_t1_loop.trips = 32 := by decide +kernel

variable (c : Dev nD) (i : grid1.Coords)
  (arg1 : Memref sig .tc .vmem S1x1024x1408 .bf16) (h1 : arg1.IsWhole)
  (arg2 : Memref sig .tc .vmem S1x1024x1408 .bf16) (h2 : arg2.IsWhole)
  (arg3 : Memref sig .tc .vmem S1x1408 .f32) (h3 : arg3.IsWhole)
  (arg4 : Memref sig .tc .vmem S1x8x128 .f32) (h4 : arg4.IsWhole)
  (arg5 : Memref sig .tc .vmem S8x128 .f32) (h5 : arg5.IsWhole)
  (arg6 : Memref sig .tc .vmem S1x1024x1408 .fp8e5m2) (h6 : arg6.IsWhole)
  (arg7 : Memref sig .tc .vmem S1x1 .f32) (h7 : arg7.IsWhole)
  (arg8 : Memref sig .tc .vmem S1024x128 .f32) (h8 : arg8.IsWhole)
  (x0 x1 : Vec Ideal S1x1024x1408 .bf16) (x2 : Vec Ideal S1x1408 .f32) (x3 : Vec Ideal S1x8x128 .f32)
  (x4 : Vec Ideal S8x128 .f32)

/-- The scratch column after its eight stores is `colOf` of the `rstd` block. -/
theorem col_read1 (f : BufTy.Contents (Elt Ideal) arg8.view.ty) :
    arg8.view.read (Elt Ideal) (arg8.view.writes (Elt Ideal) f (kernelRun1_A.sl.HS0_8 (F := Ideal) c arg4 h4 x3)) = colOf x3 := by
  sl_unfold_words
  rw [View.readAt_eq_ld, View.ld_unit_zero (S := S1x8x128) hz3, h4.read_unread]
  funext y
  have hy : (y 0).val < 1024 := (y 0).isLt
  have hl : (y 1).val < 128 := (y 1).isLt
  refine View.read_writes_apply_of_pieces _ _ (colOf x3) _ ?_ y ?_
  · intro p hp
    simp only [List.mem_cons, List.not_mem_nil, or_false] at hp
    rcases hp with rfl | rfl | rfl | rfl | rfl | rfl | rfl | rfl
    · exact col_piece x3 7 (by norm_num) inb_S1024x128_S128x128_896_0 _ (col1_7 x3)
    · exact col_piece x3 6 (by norm_num) inb_S1024x128_S128x128_768_0 _ (col1_6 x3)
    · exact col_piece x3 5 (by norm_num) inb_S1024x128_S128x128_640_0 _ (col1_5 x3)
    · exact col_piece x3 4 (by norm_num) inb_S1024x128_S128x128_512_0 _ (col1_4 x3)
    · exact col_piece x3 3 (by norm_num) inb_S1024x128_S128x128_384_0 _ (col1_3 x3)
    · exact col_piece x3 2 (by norm_num) inb_S1024x128_S128x128_256_0 _ (col1_2 x3)
    · exact col_piece x3 1 (by norm_num) inb_S1024x128_S128x128_128_0 _ (col1_1 x3)
    · exact col_piece x3 0 (by norm_num) inb_S1024x128_S128x128_0_0 _ (col1_0 x3)
  · simp only [List.exists_mem_cons_iff, Rect.mem_set_unit, List.not_mem_nil, false_and, exists_false, or_false, Fin.forall_fin_two]
    show (896 ≤ (y 0).val ∧ (y 0).val < 896 + 128) ∧ (0 ≤ (y 1).val ∧ (y 1).val < 0 + 128) ∨
      (768 ≤ (y 0).val ∧ (y 0).val < 768 + 128) ∧ (0 ≤ (y 1).val ∧ (y 1).val < 0 + 128) ∨
      (640 ≤ (y 0).val ∧ (y 0).val < 640 + 128) ∧ (0 ≤ (y 1).val ∧ (y 1).val < 0 + 128) ∨
      (512 ≤ (y 0).val ∧ (y 0).val < 512 + 128) ∧ (0 ≤ (y 1).val ∧ (y 1).val < 0 + 128) ∨
      (384 ≤ (y 0).val ∧ (y 0).val < 384 + 128) ∧ (0 ≤ (y 1).val ∧ (y 1).val < 0 + 128) ∨
      (256 ≤ (y 0).val ∧ (y 0).val < 256 + 128) ∧ (0 ≤ (y 1).val ∧ (y 1).val < 0 + 128) ∨
      (128 ≤ (y 0).val ∧ (y 0).val < 128 + 128) ∧ (0 ≤ (y 1).val ∧ (y 1).val < 0 + 128) ∨
      (0 ≤ (y 0).val ∧ (y 0).val < 0 + 128) ∧ (0 ≤ (y 1).val ∧ (y 1).val < 0 + 128)
    omega

/-- Row `r` of the rows at offset `32 k` is row `32 k + r` of the block. -/
theorem ld_rows1 (x : Vec Ideal S1x1024x1408 .bf16) (k : Fin k1_t1_loop.trips) (r : Fin 32) (d : Fin 1408) :
    View.ld x (Rect.unit (s := S1x1024x1408) (k1_off2 k) S1x32x1408.size (k1_off2_inb k)) (ix3 0 r d)
      = x (ix3 0 (rowN (32 * k.val + r.val)) d) := by
  have hk : k.val < 32 := lt_of_lt_of_eq k.isLt trips1
  refine congrArg x (funext fun a => Fin.ext ?_)
  show k1_off2 k a + 1 * (ix3 (0 : Fin 1) r d a).val = _
  rw [k1_off2_eq]
  fin_cases a
  · rfl
  · show 32 * k.val + 1 * r.val = (32 * k.val + r.val) % 1024
    omega
  · show 0 + 1 * d.val = d.val
    omega

/-- Row `r` of the scratch rows at offset `32 k` holds `rstd` of row `32 k + r` of the block. -/
theorem ld_cols1 (x3 : Vec Ideal S1x8x128 .f32) (k : Fin k1_t1_loop.trips) (r : Fin 32) (l : Fin 128) :
    View.ld (colOf x3) (Rect.unit (s := S1024x128) (k1_off1 k) S32x128.size (k1_off1_inb k)) (ix2 r l)
      = blkR x3 (rowN (32 * k.val + r.val)) := by
  have hk : k.val < 32 := lt_of_lt_of_eq k.isLt trips1
  have e : (Rect.unit (s := S1024x128) (k1_off1 k) S32x128.size (k1_off1_inb k)).idx (ix2 r l)
      = ix2 (rowN (32 * k.val + r.val)) l := by
    refine funext fun a => Fin.ext ?_
    show k1_off1 k a + 1 * (ix2 r l a).val = _
    rw [k1_off1_eq]
    fin_cases a
    · show 32 * k.val + 1 * r.val = (32 * k.val + r.val) % 1024
      omega
    · show 0 + 1 * l.val = l.val
      omega
  show colOf x3 ((Rect.unit (s := S1024x128) (k1_off1 k) S32x128.size (k1_off1_inb k)).idx (ix2 r l)) = _
  rw [e]
  rfl

/-- The block row a trip's row `x` is stored at. -/
theorem piece_row (k : Fin k1_t1_loop.trips) (x : S1x32x1408.Idx) :
    (Rect.unit (s := S1x1024x1408) (k1_off2 k) S1x32x1408.size (k1_off2_inb k)).emb x 1 = rowN (32 * k.val + (x 1).val) := by
  have hk : k.val < 32 := lt_of_lt_of_eq k.isLt trips1
  have hx1 : (x 1).val < 32 := (x 1).isLt
  have h : k1_off2 k 1 = 32 * k.val := congrFun (k1_off2_eq k) 1
  refine Fin.ext ?_
  show k1_off2 k 1 + 1 * (x 1).val = (32 * k.val + (x 1).val) % 1024
  omega

/-- The block lane a trip's lane `x` is stored at. -/
theorem piece_lane (k : Fin k1_t1_loop.trips) (x : S1x32x1408.Idx) :
    (Rect.unit (s := S1x1024x1408) (k1_off2 k) S1x32x1408.size (k1_off2_inb k)).emb x 2 = x 2 := by
  have h : k1_off2 k 2 = 0 := congrFun (k1_off2_eq k) 2
  refine Fin.ext ?_
  show k1_off2 k 2 + 1 * (x 2).val = (x 2).val
  omega

/-- An index of a stored piece, by its coordinates. -/
theorem idx_split (x : S1x32x1408.Idx) : x = ix3 0 (x 1) (x 2) := by
  have h := eq_ix3 x
  have h0 : x 0 = (0 : Fin 1) := Subsingleton.elim (α := Fin 1) _ _
  rw [h0] at h
  exact h

/-- What one trip stores, element by element, is the block's code there. -/
theorem trip1_piece (v87 : Vec Ideal S1x1 .f32) (k : Fin k1_t1_loop.trips)
    (y1 : BufTy.Contents (Elt Ideal) arg1.view.ty) (y2 : BufTy.Contents (Elt Ideal) arg2.view.ty)
    (y3 : BufTy.Contents (Elt Ideal) arg3.view.ty) (y8 : BufTy.Contents (Elt Ideal) arg8.view.ty)
    (e8 : arg8.view.read (Elt Ideal) y8 = colOf x3) :
    ∀ p ∈ tripL_k1_t1 (F := Ideal) .none c none i arg1 h1 arg2 h2 arg3 h3 arg4 h4 arg5 h5 arg6 h6 arg7 h7 arg8 h8 v87 y1 y2 y3 y8 k,
      ∀ x : p.1.shape.Idx, p.2 x = codeAt (arg1.view.read (Elt Ideal) y1) (arg2.view.read (Elt Ideal) y2)
        (arg3.view.read (Elt Ideal) y3) x3 (v87 (ix2 0 0)) (p.1.emb x 1) (p.1.emb x 2) := by
  unfold tripL_k1_t1 trip_k1_t1
  dsimp only
  intro p hp
  rw [List.mem_singleton] at hp
  subst hp
  intro x
  have hk : k.val < 32 := lt_of_lt_of_eq k.isLt trips1
  have ex := idx_split x
  simp only [View.readAt_eq_ld]
  rw [View.ld_unit_zero (S := S1x1408) hz2, e8]
  refine (congrArg _ ex).trans ?_
  refine (k1pay4_apply v87 _ _ _ _ (x 1) (x 2)).trans ?_
  have e1 := piece_row k x
  have e2 := piece_lane k x
  unfold codeAt blkDx
  refine congrArg (fun t => min (Ideal.ofBits .f32 1197473792#32) (max (Ideal.ofBits .f32 3344957440#32) (t * v87 (ix2 0 0)))) ?_
  refine Eq.trans ?_ (congrArg₂ (fun s d => rowDx (blkR x3 s) (fun j => arg1.view.read (Elt Ideal) y1 (ix3 0 s j))
    (fun j => arg2.view.read (Elt Ideal) y2 (ix3 0 s j)) (fun j => arg3.view.read (Elt Ideal) y3 (ix2 0 j)) d) e1 e2).symm
  congr 1
  · exact ld_cols1 x3 k (x 1) 0
  · funext j; exact ld_rows1 _ k (x 1) j
  · funext j; exact ld_rows1 _ k (x 1) j

/-- Every piece the trips store is the block's codes there. -/
theorem pb1_pieces (v87 : Vec Ideal S1x1 .f32)
    (y1 : BufTy.Contents (Elt Ideal) arg1.view.ty) (y2 : BufTy.Contents (Elt Ideal) arg2.view.ty)
    (y3 : BufTy.Contents (Elt Ideal) arg3.view.ty) (y8 : BufTy.Contents (Elt Ideal) arg8.view.ty)
    (e8 : arg8.view.read (Elt Ideal) y8 = colOf x3) : ∀ n, n ≤ k1_t1_loop.trips →
    ∀ p ∈ pb_k1_t1 (F := Ideal) .none c none i arg1 h1 arg2 h2 arg3 h3 arg4 h4 arg5 h5 arg6 h6 arg7 h7 arg8 h8 v87 y1 y2 y3 y8 n,
      ∀ x : p.1.shape.Idx, p.2 x = codeAt (arg1.view.read (Elt Ideal) y1) (arg2.view.read (Elt Ideal) y2)
        (arg3.view.read (Elt Ideal) y3) x3 (v87 (ix2 0 0)) (p.1.emb x 1) (p.1.emb x 2)
  | 0, _ => fun p hp => absurd hp List.not_mem_nil
  | n + 1, hn => by
    rw [show pb_k1_t1 (F := Ideal) .none c none i arg1 h1 arg2 h2 arg3 h3 arg4 h4 arg5 h5 arg6 h6 arg7 h7 arg8 h8 v87 y1 y2 y3 y8 (n + 1) = _
      from pb_k1_t1_succ (F := Ideal) .none c none i arg1 h1 arg2 h2 arg3 h3 arg4 h4 arg5 h5 arg6 h6 arg7 h7 arg8 h8 v87 y1 y2 y3 y8 ⟨n, hn⟩]
    intro p hp
    rcases List.mem_append.mp hp with h | h
    · exact trip1_piece c i arg1 h1 arg2 h2 arg3 h3 arg4 h4 arg5 h5 arg6 h6 arg7 h7 arg8 h8 x3 v87 ⟨n, hn⟩ y1 y2 y3 y8 e8 p h
    · exact pb1_pieces v87 y1 y2 y3 y8 e8 n (Nat.le_of_succ_le hn) p h

/-- The code block a point leaves. -/
theorem out1_A_5_apply (s : Fin 1024) (d : Fin 1408) :
    out1_A_5 (F := Ideal) c i arg1 h1 arg2 h2 arg3 h3 arg4 h4 arg5 h5 arg6 h6 arg7 h7 arg8 h8 x0 x1 x2 x3 x4 (ix3 0 s d)
      = codeAt x0 x1 x2 x3 (invOf x4) s d := by
  unfold out1_A_5
  have hc := cover1_A_5 (F := Ideal) c i arg1 h1 arg2 h2 arg3 h3 arg4 h4 arg5 h5 arg6 h6 arg7 h7 arg8 h8 x0 x1 x2 x3 x4 (ix3 0 s d)
  refine (View.read_writes_apply_of_pieces _ _ (fun y => codeAt x0 x1 x2 x3 (invOf x4) (y 1) (y 2)) _ ?_ (ix3 0 s d) hc)
  unfold kernelRun1_A
  dsimp only
  have hp := pb1_pieces c i arg1 h1 arg2 h2 arg3 h3 arg4 h4 arg5 h5 arg6 h6 arg7 h7 arg8 h8 x3 (kernelRun1_A.sl.r_5 (F := Ideal) c arg5 h5 x4)
    (h1.unread x0) (h2.unread x1) (h3.unread x2) _ (col_read1 c arg4 h4 arg8 x3 arg8.view.junk) _ le_rfl
  rw [h1.read_unread, h2.read_unread, h3.read_unread] at hp
  have hv : kernelRun1_A.sl.r_5 (F := Ideal) c arg5 h5 x4 (ix2 0 0) = invOf x4 := by
    sl_unfold_words
    rw [View.readAt_eq_ld, View.ld_unit_zero (S := S8x128) hz2, h5.read_unread]
    exact pay13q_eq x4
  rw [hv] at hp
  exact hp

/-- The scale a point leaves. -/
theorem out1_A_6_apply :
    out1_A_6 (F := Ideal) c i arg1 h1 arg2 h2 arg3 h3 arg4 h4 arg5 h5 arg6 h6 arg7 h7 arg8 h8 x0 x1 x2 x3 x4 (ix2 0 0)
      = scaleOf x4 := by
  unfold out1_A_6 kernelRun1_A
  dsimp only
  sl_unfold_words
  rw [read_writes_whole_cons _ _ hz2, View.readAt_eq_ld, View.ld_unit_zero (S := S8x128) hz2, h5.read_unread]
  exact pay10q_eq x4

end Cert.Proof
-- ==== Proof.QuantArr.lean ====
module

public import proofs.«01_k».proof.Proof.StatsArr
public import proofs.«01_k».proof.Proof.QuantPoint

/-! The quantising call: what its two result arrays hold after all sixty grid points. -/

@[expose] public section

noncomputable section

open Idealize.ShloMosaic Idealize.ShloMosaic.TcCoe Idealize.SL.Sem

namespace Cert.Proof

open Cert.KernelIdeal Cert.KernelIdeal.Gen

/-- Where each window of the quantising call is placed at point `t`. -/
theorem idx_facts1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 2) = 0 ∧ win1_2.index t (1 : Fin 2) = 0)
    ∧ (win1_3.index t (0 : Fin 3) = t.val ∧ win1_3.index t (1 : Fin 3) = 0 ∧ win1_3.index t (2 : Fin 3) = 0)
    ∧ (win1_4.index t (0 : Fin 2) = 0 ∧ win1_4.index t (1 : Fin 2) = 0)
    ∧ (win1_5.index t (0 : Fin 3) = t.val ∧ win1_5.index t (1 : Fin 3) = 0 ∧ win1_5.index t (2 : Fin 3) = 0) :=
  (by decide +kernel : ∀ t : Fin grid1.N, _)

variable (V : (c : Dev nD) → (b : Ref sig .tc) → Buf (Elt Ideal) ((c : Thread nD τ).loc b))

/-- Window 0's block at point `t` is batch `t` of the activations. -/
theorem iblk1_0_eq (c : Dev nD) (t : Fin cfg1.N) : iblk1 V c 0 t = blockX (V c main_arg0) (ptN t.val) := by
  obtain ⟨⟨e0, e1, e2⟩, _⟩ := idx_facts1 t
  have ht : t.val < 60 := lt_of_lt_of_eq t.isLt N_1
  funext y
  show V c main_arg0 (((cfg1.win 0).blk t).view.emb y) = V c main_arg0 (ix3 (ptN t.val) (y 1) (y 2))
  refine congrArg (V c main_arg0) (funext fun a => Fin.ext ?_)
  have hy : (y 0).val < 1 := (y 0).isLt
  match a with
  | ⟨0, _⟩ => show win1_0.index t (0 : Fin 3) * 1 + 1 * (y 0).val = t.val % 60; omega
  | ⟨1, _⟩ => show win1_0.index t (1 : Fin 3) * 1024 + 1 * (y 1).val = (y 1).val; omega
  | ⟨2, _⟩ => show win1_0.index t (2 : Fin 3) * 1408 + 1 * (y 2).val = (y 2).val; omega

/-- Window 1's block at point `t` is batch `t` of the incoming gradients. -/
theorem iblk1_1_eq (c : Dev nD) (t : Fin cfg1.N) : iblk1 V c 1 t = blockX (V c main_arg1) (ptN t.val) := by
  obtain ⟨_, ⟨e0, e1, e2⟩, _⟩ := idx_facts1 t
  have ht : t.val < 60 := lt_of_lt_of_eq t.isLt N_1
  funext y
  show V c main_arg1 (((cfg1.win 1).blk t).view.emb y) = V c main_arg1 (ix3 (ptN t.val) (y 1) (y 2))
  refine congrArg (V c main_arg1) (funext fun a => Fin.ext ?_)
  have hy : (y 0).val < 1 := (y 0).isLt
  match a with
  | ⟨0, _⟩ => show win1_1.index t (0 : Fin 3) * 1 + 1 * (y 0).val = t.val % 60; omega
  | ⟨1, _⟩ => show win1_1.index t (1 : Fin 3) * 1024 + 1 * (y 1).val = (y 1).val; omega
  | ⟨2, _⟩ => show win1_1.index t (2 : Fin 3) * 1408 + 1 * (y 2).val = (y 2).val; omega

/-- Window 2's block is the whole weight row. -/
theorem iblk1_2_eq (c : Dev nD) (t : Fin cfg1.N) : iblk1 V c 2 t = V c main_v0 := by
  obtain ⟨_, _, ⟨e0, e1⟩, _⟩ := idx_facts1 t
  funext y
  show V c main_v0 (((cfg1.win 2).blk t).view.emb y) = V c main_v0 y
  refine congrArg (V c main_v0) (funext fun a => Fin.ext ?_)
  match a with
  | ⟨0, _⟩ => show win1_2.index t (0 : Fin 2) * 1 + 1 * (y 0).val = (y 0).val; omega
  | ⟨1, _⟩ => show win1_2.index t (1 : Fin 2) * 1408 + 1 * (y 1).val = (y 1).val; omega

/-- Window 3's block at point `t` is batch `t` of the laid-out `rstd`. -/
theorem iblk1_3_eq (c : Dev nD) (t : Fin cfg1.N) : iblk1 V c 3 t = blockR (V c main_v1) (ptN t.val) := by
  obtain ⟨_, _, _, ⟨e0, e1, e2⟩, _⟩ := idx_facts1 t
  have ht : t.val < 60 := lt_of_lt_of_eq t.isLt N_1
  funext y
  show V c main_v1 (((cfg1.win 3).blk t).view.emb y) = V c main_v1 (ix3 (ptN t.val) (y 1) (y 2))
  refine congrArg (V c main_v1) (funext fun a => Fin.ext ?_)
  have hy : (y 0).val < 1 := (y 0).isLt
  match a with
  | ⟨0, _⟩ => show win1_3.index t (0 : Fin 3) * 1 + 1 * (y 0).val = t.val % 60; omega
  | ⟨1, _⟩ => show win1_3.index t (1 : Fin 3) * 8 + 1 * (y 1).val = (y 1).val; omega
  | ⟨2, _⟩ => show win1_3.index t (2 : Fin 3) * 128 + 1 * (y 2).val = (y 2).val; omega

/-- Window 4's block is the whole array of maxima. -/
theorem iblk1_4_eq (c : Dev nD) (t : Fin cfg1.N) : iblk1 V c 4 t = V c main_v2_1 := by
  obtain ⟨_, _, _, _, ⟨e0, e1⟩, _⟩ := idx_facts1 t
  funext y
  show V c main_v2_1 (((cfg1.win 4).blk t).view.emb y) = V c main_v2_1 y
  refine congrArg (V c main_v2_1) (funext fun a => Fin.ext ?_)
  match a with
  | ⟨0, _⟩ => show win1_4.index t (0 : Fin 2) * 8 + 1 * (y 0).val = (y 0).val; omega
  | ⟨1, _⟩ => show win1_4.index t (1 : Fin 2) * 128 + 1 * (y 1).val = (y 1).val; omega

/-- The codes the quantising call leaves. -/
def codesArr (c : Dev nD) : Vec Ideal S60x1024x1408 .fp8e5m2 := fun i =>
  codeAt (blockX (V c main_arg0) (i 0)) (blockX (V c main_arg1) (i 0)) (V c main_v0) (blockR (V c main_v1) (i 0))
    (invOf (V c main_v2_1)) (i 1) (i 2)

/-- The scale the quantising call leaves. -/
def scaleArr (c : Dev nD) : Vec Ideal S1x1 .f32 := fun _ => scaleOf (V c main_v2_1)

/-- Point `t`'s codes, element by element. -/
theorem codes_point (c : Dev nD) (t : Fin cfg1.N) (y : S1x1024x1408.Idx) :
    (outsAt1 V c t).1 y = codesArr V c (ix3 (ptN t.val) (y 1) (y 2)) := by
  have e : y = ix3 0 (y 1) (y 2) := by
    have h := eq_ix3 y
    have h0 : y 0 = (0 : Fin 1) := Subsingleton.elim (α := Fin 1) _ _
    rw [h0] at h
    exact h
  refine (congrArg (outsAt1 V c t).1 e).trans ?_
  unfold outsAt1
  dsimp only
  rw [iblk1_0_eq, iblk1_1_eq, iblk1_2_eq, iblk1_3_eq, iblk1_4_eq]
  exact out1_A_5_apply c _ _ _ _ _ _ _ _ _ _ _ _ _ _ _ _ _ _ _ _ _ _ (y 1) (y 2)

/-- Every point writes its block of codes back. -/
theorem flushed1_5 (c : Dev nD) (t : Fin cfg1.N) (_ : (cfg1.win 5).flush t = true) :
    (dat1 V c).flushed 5 t = ((cfg1.win 5).blk t).view.read (Elt Ideal) (codesArr V c) := by
  obtain ⟨_, _, _, _, _, ⟨e0, e1, e2⟩⟩ := idx_facts1 t
  have ht : t.val < 60 := lt_of_lt_of_eq t.isLt N_1
  show (cfg1.win 5).cut (grid1.coords t) ((dat1 V c).after 5 t) = _
  rw [after1_5]
  funext y
  refine (codes_point V c t y).trans ?_
  show codesArr V c (ix3 (ptN t.val) (y 1) (y 2)) = codesArr V c (((cfg1.win 5).blk t).view.emb y)
  refine congrArg (codesArr V c) (funext fun a => Fin.ext ?_)
  have hy : (y 0).val < 1 := (y 0).isLt
  match a with
  | ⟨0, _⟩ => show t.val % 60 = win1_5.index t (0 : Fin 3) * 1 + 1 * (y 0).val; omega
  | ⟨1, _⟩ => show (y 1).val = win1_5.index t (1 : Fin 3) * 1024 + 1 * (y 1).val; omega
  | ⟨2, _⟩ => show (y 2).val = win1_5.index t (2 : Fin 3) * 1408 + 1 * (y 2).val; omega

/-- The codes' array after the call. -/
theorem arr1_5 (c : Dev nD) : (dat1 V c).arrAt 5 cfg1.N = codesArr V c :=
  (dat1 V c).arrAt_eq_of_cover 5 (codesArr V c) (flushed1_5 V c) fun i =>
    ⟨⟨(i 0).val, lt_of_lt_of_eq (i 0).isLt N_1.symm⟩, flush1_5 _, by
      obtain ⟨_, _, _, _, _, ⟨e0, e1, e2⟩⟩ := idx_facts1 ⟨(i 0).val, lt_of_lt_of_eq (i 0).isLt N_1.symm⟩
      replace e0 : win1_5.index ⟨(i 0).val, lt_of_lt_of_eq (i 0).isLt N_1.symm⟩ (0 : Fin 3) = (i 0).val := e0
      show i ∈ ((View.whole main_v3_0).slice (win1_5.rect ⟨(i 0).val, lt_of_lt_of_eq (i 0).isLt N_1.symm⟩)).set
      rw [View.set_slice_whole, Rect.mem_set_unit]
      intro a
      have h0 : (i 0 : Nat) < 60 := (i 0).isLt
      have h1 : (i 1 : Nat) < 1024 := (i 1).isLt
      have h2 : (i 2 : Nat) < 1408 := (i 2).isLt
      match a with
      | ⟨0, _⟩ => show win1_5.index _ (0 : Fin 3) * 1 ≤ (i 0 : Nat) ∧ (i 0 : Nat) < win1_5.index _ (0 : Fin 3) * 1 + 1; omega
      | ⟨1, _⟩ => show win1_5.index _ (1 : Fin 3) * 1024 ≤ (i 1 : Nat) ∧ (i 1 : Nat) < win1_5.index _ (1 : Fin 3) * 1024 + 1024; omega
      | ⟨2, _⟩ => show win1_5.index _ (2 : Fin 3) * 1408 ≤ (i 2 : Nat) ∧ (i 2 : Nat) < win1_5.index _ (2 : Fin 3) * 1408 + 1408; omega⟩

/-- The last grid point. -/
abbrev tl1 : Fin cfg1.N := ⟨59, by decide⟩

/-- The last point writes the scale back whole. -/
theorem flushed1_6 (c : Dev nD) (t : Fin cfg1.N) (hf : (cfg1.win 6).flush t = true) :
    (dat1 V c).flushed 6 t = ((cfg1.win 6).blk t).view.read (Elt Ideal) (scaleArr V c) := by
  have h3 : t.val = 59 := by have := (flush1_6 t).mp hf; have := lt_of_lt_of_eq t.isLt N_1; omega
  obtain rfl : t = tl1 := Fin.ext h3
  show (cfg1.win 6).cut (grid1.coords tl1) ((dat1 V c).after 6 tl1) = _
  rw [after1_6]
  have hz' : (fun a => win1_6.index tl1 a * main_v3_1.ty.shape.size a) = fun _ => 0 := funext fun a => by fin_cases a <;> decide
  refine Eq.trans ?_ (Memref.read_access_unit_zero (Elt Ideal) main_v3_1 hz' (fun a => by rw [congrFun hz' a]; simp) (scaleArr V c)).symm
  funext y
  have e : y = (ix2 0 0 : S1x1.Idx) := funext fun a => by
    match a with
    | ⟨0, _⟩ => exact Subsingleton.elim (α := Fin 1) _ _
    | ⟨1, _⟩ => exact Subsingleton.elim (α := Fin 1) _ _
  show (outsAt1 V c tl1).2 y = scaleOf (V c main_v2_1)
  refine (congrArg (outsAt1 V c tl1).2 e).trans ?_
  unfold outsAt1
  dsimp only
  rw [iblk1_0_eq, iblk1_1_eq, iblk1_2_eq, iblk1_3_eq, iblk1_4_eq]
  exact out1_A_6_apply c _ _ _ _ _ _ _ _ _ _ _ _ _ _ _ _ _ _ _ _ _ _

/-- The scale's array after the call. -/
theorem arr1_6 (c : Dev nD) : (dat1 V c).arrAt 6 cfg1.N = scaleArr V c :=
  (dat1 V c).arrAt_eq_of_cover 6 (scaleArr V c) (flushed1_6 V c) fun i =>
    ⟨tl1, (flush1_6 tl1).mpr rfl, by
      show i ∈ ((View.whole main_v3_1).slice (win1_6.rect tl1)).set
      rw [View.set_slice_whole, Rect.mem_set_unit]
      intro a
      have h0 : (i 0 : Nat) < 1 := (i 0).isLt
      have h1 : (i 1 : Nat) < 1 := (i 1).isLt
      match a with
      | ⟨0, _⟩ => show win1_6.index tl1 0 * win1_6.size 0 ≤ (i 0 : Nat) ∧ (i 0 : Nat) < win1_6.index tl1 0 * win1_6.size 0 + win1_6.xsize (grid1.coords tl1) 0
                  rw [show win1_6.index tl1 0 * win1_6.size 0 = 0 from by decide +kernel, show win1_6.xsize (grid1.coords tl1) 0 = 1 from by decide +kernel]; omega
      | ⟨1, _⟩ => show win1_6.index tl1 1 * win1_6.size 1 ≤ (i 1 : Nat) ∧ (i 1 : Nat) < win1_6.index tl1 1 * win1_6.size 1 + win1_6.xsize (grid1.coords tl1) 1
                  rw [show win1_6.index tl1 1 * win1_6.size 1 = 0 from by decide +kernel, show win1_6.xsize (grid1.coords tl1) 1 = 1 from by decide +kernel]; omega⟩

end Cert.Proof
-- ==== Proof.KernelVals.lean ====
module

public import proofs.«01_k».proof.Proof.QuantArr
public import Idealize.ShloMosaic.Lib.StableHlo.RunRead

/-! The kernel's buffers, read from the launch to the return: the two reshapes, the two calls, the sublane sum. -/

@[expose] public section

noncomputable section

open Idealize.ShloMosaic Idealize.ShloMosaic.TcCoe Idealize.SL.Sem

namespace Cert.Proof

open Cert.KernelIdeal Cert.KernelIdeal.Gen

variable (m : (ℓ : Loc nD τ sig) → Buf (Elt Ideal) ℓ) (ρ : Dev nD → PrngReg) (c : Dev nD)

/-- The activations at launch. -/
abbrev argX : Vec Ideal S60x1024x1408 .bf16 := m ((c : Thread nD τ).loc main_arg0)
/-- The incoming gradients at launch. -/
abbrev argDy : Vec Ideal S60x1024x1408 .bf16 := m ((c : Thread nD τ).loc main_arg1)
/-- The weights at launch. -/
abbrev argG : Vec Ideal S1408 .f32 := m ((c : Thread nD τ).loc main_arg2)
/-- The `rstd` at launch. -/
abbrev argR : Vec Ideal S60x1024 .f32 := m ((c : Thread nD τ).loc main_arg3)

/-- The weight row the calls read is the weights, reshaped. -/
theorem V1_v0 (j : Fin 1408) : V1 m ρ c main_v0 (ix2 0 j) = argG m c (ix1 j) := by
  have h : V1 m ρ c main_v0 = shapeCast S1x1408 (argG m c) shapeCasts_S1408_S1x1408 := by
    show StableHlo.after hostOps0 (W0 m ρ c) (Proc.devRef .tc main_v0) = _
    after_reads_simp
    rfl
  rw [h]
  pointwise

/-- The laid-out `rstd` the calls read is `rstd`, its 1024 rows as 8 by 128. -/
theorem V1_v1 (b : Fin 60) (p : Fin 8) (l : Fin 128) :
    V1 m ρ c main_v1 (ix3 b p l) = argR m c (ix2 b (⟨p.val * 128 + l.val, by omega⟩ : Fin 1024)) := by
  have h : V1 m ρ c main_v1 = shapeCast S60x8x128 (argR m c) shapeCasts_S60x1024_S60x8x128 := by
    show StableHlo.after hostOps0 (W0 m ρ c) (Proc.devRef .tc main_v1) = _
    after_reads_simp
    rfl
  rw [h]
  pointwise

/-- Row `s` of batch `b` of the laid-out `rstd`. -/
theorem V1_row (b : Fin 60) (s : Fin 1024) : blkR (blockR (V1 m ρ c main_v1) b) s = argR m c (ix2 b s) := by
  show V1 m ρ c main_v1 (ix3 b (⟨s.val / 128, _⟩ : Fin 8) (⟨s.val % 128, _⟩ : Fin 128)) = _
  rw [V1_v1]
  refine congrArg (fun q => argR m c (ix2 b q)) (Fin.ext ?_)
  show s.val / 128 * 128 + s.val % 128 = s.val
  omega

/-- The arguments as the first call finds them. -/
theorem V1_arg0 : V1 m ρ c main_arg0 = argX m c := W1_args m ρ c main_arg0 (by decide)
/-- So it does the incoming gradients. -/
theorem V1_arg1 : V1 m ρ c main_arg1 = argDy m c := W1_args m ρ c main_arg1 (by decide)

/-- The arguments, and the two reshapes, as the second call finds them. -/
theorem V2_arg0 : V2 m ρ c main_arg0 = argX m c := W2_args m ρ c main_arg0 (by decide)
/-- and the incoming gradients, -/
theorem V2_arg1 : V2 m ρ c main_arg1 = argDy m c := W2_args m ρ c main_arg1 (by decide)
/-- the weight row -/
theorem V2_v0 : V2 m ρ c main_v0 = V1 m ρ c main_v0 := W2_of m ρ c main_v0 (by decide +kernel)
/-- and the row scales. -/
theorem V2_v1 : V2 m ρ c main_v1 = V1 m ρ c main_v1 := W2_of m ρ c main_v1 (by decide +kernel)

/-- The sums the first call leaves. -/
theorem V2_sums : V2 m ρ c main_v2_0 = (stats (V1 m ρ) c).1 := (hF0 m ρ c 4).symm.trans (arr0_4 (V1 m ρ) c)
/-- The maxima the first call leaves. -/
theorem V2_maxima : V2 m ρ c main_v2_1 = (stats (V1 m ρ) c).2 := (hF0 m ρ c 5).symm.trans (arr0_5 (V1 m ρ) c)

/-- The codes at the return. -/
theorem W4_codes : W4 m ρ c (Proc.devRef .tc main_v3_0) = codesArr (V2 m ρ) c :=
  (W4_of m ρ c main_v3_0 (by decide)).trans ((hF1 m ρ c 5).symm.trans (arr1_5 (V2 m ρ) c))

/-- The scale at the return. -/
theorem W4_scale : W4 m ρ c (Proc.devRef .tc main_v5) = (fun _ => scaleOf (stats (V1 m ρ) c).2 : Vec Ideal S1x1x1 .f32) := by
  have h3 : W3 m ρ c (Proc.devRef .tc main_v3_1) = scaleArr (V2 m ρ) c := (hF1 m ρ c 6).symm.trans (arr1_6 (V2 m ρ) c)
  have h : W4 m ρ c (Proc.devRef .tc main_v5) = shapeCast S1x1x1 (W3 m ρ c (Proc.devRef .tc main_v3_1) : Vec Ideal S1x1 .f32) shapeCasts_S1x1_S1x1x1 := by
    show StableHlo.after hostOps2 (W3 m ρ c) (Proc.devRef .tc main_v5) = _
    after_reads_simp
    rfl
  rw [h, h3, ← V2_maxima]
  rfl

/-- The weight gradient at the return: the eight sublane sums, added. -/
theorem W4_dgamma (d : Fin 1408) :
    (W4 m ρ c (Proc.devRef .tc main_v4) : Vec Ideal S1408 .f32) (ix1 d) = ∑ u : Fin 8, (stats (V1 m ρ) c).1 (ix2 u d) := by
  have h3 : W3 m ρ c (Proc.devRef .tc main_v2_0) = (stats (V1 m ρ) c).1 :=
    (W3_of m ρ c main_v2_0 (by decide +kernel)).trans (V2_sums m ρ c)
  have h : W4 m ρ c (Proc.devRef .tc main_v4)
      = Host.reduceAdd (W3 m ρ c (Proc.devRef .tc main_v2_0) : FVec Ideal S8x1408 .f32) (constant (F := Ideal) S_ .f32 0x00000000#32) reducesTo_S8x1408_S1408_d0 h_S_ := by
    show StableHlo.after hostOps2 (W3 m ρ c) (Proc.devRef .tc main_v4) = _
    after_reads_simp
  rw [h, h3]
  pointwise

/-- The kernel's `dx` at batch `b`, row `s`, lane `d`, from the arguments. -/
def kDx (X Dy : Vec Ideal S60x1024x1408 .bf16) (G : Vec Ideal S1408 .f32) (R : Vec Ideal S60x1024 .f32)
    (b : Fin 60) (s : Fin 1024) (d : Fin 1408) : EReal :=
  rowDx (R (ix2 b s)) (fun j => X (ix3 b s j)) (fun j => Dy (ix3 b s j)) (fun j => G (ix1 j)) d

/-- A block's `dx` in the calls is the kernel's `dx` of the arguments. -/
theorem blkDx_eq (b : Fin 60) (s : Fin 1024) (d : Fin 1408) :
    blkDx (blockX (argX m c) b) (blockX (argDy m c) b) (V1 m ρ c main_v0) (blockR (V1 m ρ c main_v1) b) s d
      = kDx (argX m c) (argDy m c) (argG m c) (argR m c) b s d := by
  unfold blkDx kDx
  rw [V1_row]
  refine congrArg (fun g => rowDx (argR m c (ix2 b s)) _ _ g d) ?_
  funext j
  exact V1_v0 m ρ c j

/-- The codes at the return, element by element: `dx` times the inverse scale, clipped. -/
theorem codes_val (b : Fin 60) (s : Fin 1024) (d : Fin 1408) :
    (W4 m ρ c (Proc.devRef .tc main_v3_0) : Vec Ideal S60x1024x1408 .fp8e5m2) (ix3 b s d)
      = min (Ideal.ofBits .f32 1197473792#32) (max (Ideal.ofBits .f32 3344957440#32)
          (kDx (argX m c) (argDy m c) (argG m c) (argR m c) b s d * invOf (stats (V1 m ρ) c).2)) := by
  rw [W4_codes]
  show codeAt (blockX (V2 m ρ c main_arg0) b) (blockX (V2 m ρ c main_arg1) b) (V2 m ρ c main_v0) (blockR (V2 m ρ c main_v1) b)
    (invOf (V2 m ρ c main_v2_1)) s d = _
  rw [V2_arg0, V2_arg1, V2_v0, V2_v1, V2_maxima]
  unfold codeAt
  rw [blkDx_eq]

/-- A point number's row from its chunk, its sublane group and its sublane. -/
theorem ptN_val (b : Fin 60) : ptN b.val = b := Fin.ext (Nat.mod_eq_of_lt b.isLt)

/-- The maxima are bounded by `z` exactly when `z` is nonnegative and bounds every `|dx|`. -/
theorem maxima_le (z : EReal) :
    (∀ (u : Fin 8) (l : Fin 128), (stats (V1 m ρ) c).2 (ix2 u l) ≤ z)
      ↔ 0 ≤ z ∧ ∀ b s d, eabs (kDx (argX m c) (argDy m c) (argG m c) (argR m c) b s d) ≤ z := by
  have key : ∀ (u : Fin 8) (l : Fin 128), (stats (V1 m ρ) c).2 (ix2 u l) ≤ z ↔ 0 ≤ z ∧ ∀ n < 60, ∀ k < 32, ∀ (g : Fin 4) (q : Fin 11),
      eabs (kDx (argX m c) (argDy m c) (argG m c) (argR m c) (ptN n) (rowN (32 * k + (chunkRow g u).val)) (laneOf q l)) ≤ z := fun u l => by
    unfold stats
    rw [outsAt0_max, V1_arg0, V1_arg1]
    refine and_congr_right fun _ => forall_congr' fun n => forall_congr' fun _ => ?_
    unfold PtLe
    exact forall_congr' fun k => forall_congr' fun _ => forall_congr' fun g => forall_congr' fun q =>
      iff_of_eq (congrArg (fun t => eabs t ≤ z) (blkDx_eq m ρ c (ptN n) _ _))
  constructor
  · intro h
    refine ⟨((key 0 0).mp (h 0 0)).1, fun b s d => ?_⟩
    have h' := ((key (⟨s.val % 8, by omega⟩ : Fin 8) (⟨d.val % 128, by omega⟩ : Fin 128)).mp (h _ _)).2 b.val b.isLt (s.val / 32) (by omega)
      (⟨s.val % 32 / 8, by omega⟩ : Fin 4) (⟨d.val / 128, by omega⟩ : Fin 11)
    rw [ptN_val] at h'
    have e1 : rowN (32 * (s.val / 32) + (chunkRow (⟨s.val % 32 / 8, by omega⟩ : Fin 4) (⟨s.val % 8, by omega⟩ : Fin 8)).val) = s := by
      refine Fin.ext ?_
      show (32 * (s.val / 32) + (s.val % 32 / 8 * 8 + s.val % 8)) % 1024 = s.val
      omega
    have e2 : laneOf (⟨d.val / 128, by omega⟩ : Fin 11) (⟨d.val % 128, by omega⟩ : Fin 128) = d := by
      refine Fin.ext ?_
      show d.val / 128 * 128 + d.val % 128 = d.val
      omega
    rw [e1, e2] at h'
    exact h'
  · intro h u l
    exact (key u l).mpr ⟨h.1, fun n _ k _ g q => h.2 _ _ _⟩

/-- A sum over 1024 rows, by chunk, sublane group and sublane. -/
theorem sum_rows (f : Fin 1024 → EReal) :
    ∑ s, f s = ∑ k ∈ Finset.range 32, ∑ g : Fin 4, ∑ u : Fin 8, f (rowN (32 * k + (chunkRow g u).val)) := by
  let e : Fin 32 × Fin 4 × Fin 8 ≃ Fin 1024 :=
    { toFun := fun p => ⟨32 * p.1.val + (p.2.1.val * 8 + p.2.2.val), by omega⟩
      invFun := fun s => (⟨s.val / 32, by omega⟩, ⟨s.val % 32 / 8, by omega⟩, ⟨s.val % 8, by omega⟩)
      left_inv := fun p => by
        refine Prod.ext (Fin.ext ?_) (Prod.ext (Fin.ext ?_) (Fin.ext ?_)) <;> dsimp only <;> omega
      right_inv := fun s => Fin.ext (by dsimp only; omega) }
  rw [← e.sum_comp f, Fintype.sum_prod_type, Finset.sum_range]
  refine Finset.sum_congr rfl fun k _ => ?_
  rw [Fintype.sum_prod_type]
  refine Finset.sum_congr rfl fun g _ => Finset.sum_congr rfl fun u _ => congrArg f (Fin.ext ?_)
  show 32 * k.val + (g.val * 8 + u.val) = (32 * k.val + (g.val * 8 + u.val)) % 1024
  omega

/-- The weight gradient at the return: `dy · rstd · x`, summed over every batch and row. -/
theorem dgamma_val (d : Fin 1408) :
    (W4 m ρ c (Proc.devRef .tc main_v4) : Vec Ideal S1408 .f32) (ix1 d)
      = ∑ b : Fin 60, ∑ s : Fin 1024, argDy m c (ix3 b s d) * argR m c (ix2 b s) * argX m c (ix3 b s d) := by
  have h : ∀ u : Fin 8, (stats (V1 m ρ) c).1 (ix2 u d) = ∑ n ∈ Finset.range 60, ∑ k ∈ Finset.range 32, ∑ g : Fin 4,
      argDy m c (ix3 (ptN n) (rowN (32 * k + (chunkRow g u).val)) d) * argR m c (ix2 (ptN n) (rowN (32 * k + (chunkRow g u).val)))
        * argX m c (ix3 (ptN n) (rowN (32 * k + (chunkRow g u).val)) d) := fun u => by
    unfold stats
    rw [outsAt0_sum, V1_arg0, V1_arg1]
    unfold ptSum blkDg
    exact Finset.sum_congr rfl fun n _ => Finset.sum_congr rfl fun k _ => Finset.sum_congr rfl fun g _ =>
      congrArg (fun r => argDy m c (ix3 (ptN n) (rowN (32 * k + (chunkRow g u).val)) d) * r
        * argX m c (ix3 (ptN n) (rowN (32 * k + (chunkRow g u).val)) d)) (V1_row m ρ c (ptN n) _)
  refine (W4_dgamma m ρ c d).trans ((Finset.sum_congr rfl fun u _ => h u).trans ?_)
  rw [Finset.sum_comm, Finset.sum_range]
  refine Finset.sum_congr rfl fun b _ => ?_
  rw [ptN_val, sum_rows, Finset.sum_comm]
  refine Finset.sum_congr rfl fun k _ => ?_
  rw [Finset.sum_comm]

end Cert.Proof
-- ==== Proof.RefVals.lean ====
module

public import proofs.«01_k».proof.Proof.Gen.ReferenceIdeal.Frame
public import Idealize.ShloMosaic.Lib.StableHlo.RunRead
public import Idealize.ShloMosaic.PureOps.Ideal

/-! The reference's host operations, read: its three results as arrays of the arguments. -/

@[expose] public section

noncomputable section

open Idealize.ShloMosaic Idealize.ShloMosaic.TcCoe Idealize.SL.Sem

namespace Cert.Proof.Ref

open Cert.ReferenceIdeal Cert.ReferenceIdeal.Gen

variable (X Dy : FVec Ideal S60x1024x1408 .bf16) (G : FVec Ideal S1408 .f32) (R : FVec Ideal S60x1024 .f32)

/-- The row scale, broadcast over the lanes. -/
def bcR : FVec Ideal S60x1024x1408 .f32 :=
  broadcastInDim S60x1024x1408 ![0, 1, 2] bcast_S60x1024x1_S60x1024x1408_0_1_2 (broadcastInDim S60x1024x1 ![0, 1] bcast_S60x1024_S60x1024x1_0_1 R)

/-- The normalised activations. -/
def xhat : FVec Ideal S60x1024x1408 .f32 := mulf (extf .f32 X bitsLt_bf16_f32) (bcR R)

/-- The reference's weight gradient. -/
def dgamma : FVec Ideal S1408 .f32 :=
  Host.reduceAdd (mulf (extf .f32 Dy bitsLt_bf16_f32) (xhat X R)) (constant (F := Ideal) S_ .f32 0x00000000#32) reducesTo_S60x1024x1408_S1408_d0_1 h_S_

/-- The gradient of the normalised activations. -/
def gArr : FVec Ideal S60x1024x1408 .f32 :=
  mulf (extf .f32 Dy bitsLt_bf16_f32)
    (broadcastInDim S60x1024x1408 ![0, 1, 2] bcast_S1x1x1408_S60x1024x1408_0_1_2 (broadcastInDim S1x1x1408 ![2] bcast_S1408_S1x1x1408_2 G))

/-- The reference's input gradient. -/
def dx : FVec Ideal S60x1024x1408 .f32 :=
  mulf (bcR R) (subf (gArr Dy G) (mulf (xhat X R)
    (broadcastInDim S60x1024x1408 ![0, 1, 2] bcast_S60x1024x1_S60x1024x1408_0_1_2
      (Host.divf (broadcastInDim S60x1024x1 ![0, 1] bcast_S60x1024_S60x1024x1_0_1
          (Host.reduceAdd (mulf (gArr Dy G) (xhat X R)) (constant (F := Ideal) S_ .f32 0x00000000#32) reducesTo_S60x1024x1408_S60x1024_d2 h_S_))
        (broadcastInDim S60x1024x1 ![] bcast_S_S60x1024x1 (constant (F := Ideal) S_ .f32 0x44B00000#32))))))

variable (D : FVec Ideal S60x1024x1408 .f32)

/-- The greatest magnitude over the format's maximum, for an input gradient `D`. -/
def yArr : FVec Ideal S1x1x1 .f32 :=
  mulf (broadcastInDim S1x1x1 ![] bcast_S_S1x1x1
      (Host.reduce FloatOps.maximumf (Host.absf D) (constant (F := Ideal) S_ .f32 0xFF800000#32) reducesTo_S60x1024x1408_S_d0_1_2 h_S_))
    (broadcastInDim S1x1x1 ![] bcast_S_S1x1x1 (constant (F := Ideal) S_ .f32 0x37924925#32))

variable (Y : FVec Ideal S1x1x1 .f32)

/-- The scale's exponent, for the quotient `Y`. -/
def eArr : FVec Ideal S1x1x1 .f32 :=
  select (cmpf .olt Y (broadcastInDim S1x1x1 ![] bcast_S_S1x1x1 (constant (F := Ideal) S_ .f32 0x00800000#32)))
    (broadcastInDim S1x1x1 ![] bcast_S_S1x1x1 (constant (F := Ideal) S_ .f32 0x00000000#32))
    (addf (Host.floor (Host.divf (Host.log Y) (broadcastInDim S1x1x1 ![] bcast_S_S1x1x1 (Host.log (constant (F := Ideal) S_ .f32 0x40000000#32)))))
      (broadcastInDim S1x1x1 ![] bcast_S_S1x1x1 (constant (F := Ideal) S_ .f32 0x3F800000#32)))

variable (E : FVec Ideal S1x1x1 .f32)

/-- The scale, for the exponent `E`. -/
def scale : FVec Ideal S1x1x1 .f32 :=
  Host.powf (broadcastInDim S1x1x1 ![] bcast_S_S1x1x1 (constant (F := Ideal) S_ .f32 0x40000000#32)) E

/-- The clipped quotients, for the exponent `E` and the input gradient `D`. -/
def clipped : FVec Ideal S60x1024x1408 .f32 :=
  minimumf (broadcastInDim S60x1024x1408 ![] bcast_S_S60x1024x1408 (constant (F := Ideal) S_ .f32 0x47600000#32))
    (maximumf (broadcastInDim S60x1024x1408 ![] bcast_S_S60x1024x1408 (constant (F := Ideal) S_ .f32 0xC7600000#32))
      (mulf D (broadcastInDim S60x1024x1408 ![0, 1, 2] bcast_S1x1x1_S60x1024x1408_0_1_2 (scale (Host.negf E)))))

variable (m : (ℓ : Loc nD τ sig) → Buf (Elt Ideal) ℓ) (c : Dev nD)

/-- The activations at launch. -/
abbrev aX : FVec Ideal S60x1024x1408 .bf16 := m ((c : Thread nD τ).loc main_arg0)
/-- The incoming gradients at launch. -/
abbrev aDy : FVec Ideal S60x1024x1408 .bf16 := m ((c : Thread nD τ).loc main_arg1)
/-- The weights at launch. -/
abbrev aG : FVec Ideal S1408 .f32 := m ((c : Thread nD τ).loc main_arg2)
/-- The `rstd` at launch. -/
abbrev aR : FVec Ideal S60x1024 .f32 := m ((c : Thread nD τ).loc main_arg3)

/-- The weight gradient when the cast is entered. -/
theorem V_dgamma : V m c main_v6 = dgamma (aX m c) (aDy m c) (aR m c) := by
  show StableHlo.after (List.flatten [hostOps0, hostOps0_1, hostOps0_2, hostOps0_3]) (fun b => m (c, b)) (Proc.devRef .tc main_v6) = _
  after_reads_simp
  rfl

/-- The exponent of this launch. -/
abbrev eOf : FVec Ideal S1x1x1 .f32 := eArr (yArr (dx (aX m c) (aDy m c) (aG m c) (aR m c)))

/-- The scale when the cast is entered. -/
theorem V_scale : V m c main_v42 = scale (eOf m c) := by
  show StableHlo.after (List.flatten [hostOps0, hostOps0_1, hostOps0_2, hostOps0_3]) (fun b => m (c, b)) (Proc.devRef .tc main_v42) = _
  after_reads_simp
  simp -implicitDefEqProofs only [StableHlo.TRef.ofBuf, StableHlo.TRef.toBuf, cast_cast, cast_eq, id]
  unfold scale eOf eArr yArr dx gArr xhat bcR
  rfl

/-- The clipped quotients when the cast is entered. -/
theorem V_clipped : V m c main_v48 = clipped (dx (aX m c) (aDy m c) (aG m c) (aR m c)) (eOf m c) := by
  show StableHlo.after (List.flatten [hostOps0, hostOps0_1, hostOps0_2, hostOps0_3]) (fun b => m (c, b)) (Proc.devRef .tc main_v48) = _
  after_reads_simp
  simp -implicitDefEqProofs only [StableHlo.TRef.ofBuf, StableHlo.TRef.toBuf, cast_cast, cast_eq, id]
  unfold clipped scale eOf eArr yArr dx gArr xhat bcR
  rfl

end Cert.Proof.Ref
-- ==== Proof.RefAt.lean ====
module

public import proofs.«01_k».proof.Proof.Payloads
public import proofs.«01_k».proof.Proof.RefVals
public import Idealize.ShloMosaic.Lib.Pointwise.Tactic
public import Idealize.ShloMosaic.Lib.Pointwise.Reduce
public import Idealize.ShloMosaic.Lib.Pointwise.Reshape

/-! The reference's arrays, read at an index. -/

@[expose] public section

noncomputable section

open Idealize.ShloMosaic Idealize.ShloMosaic.TcCoe Idealize.SL.Sem

namespace Cert.Proof.Ref

open Cert.ReferenceIdeal Cert.ReferenceIdeal.Gen

variable (X Dy : FVec Ideal S60x1024x1408 .bf16) (G : FVec Ideal S1408 .f32) (R : FVec Ideal S60x1024 .f32)

/-- The weight gradient at a lane: the sum over all rows. -/
theorem dgamma_at (d : Fin 1408) : dgamma X Dy R (ix1 d)
    = ∑ b : Fin 60, ∑ s : Fin 1024, Dy (ix3 b s d) * (X (ix3 b s d) * R (ix2 b s)) := by
  have e : dgamma X Dy R (ix1 d)
      = 0 + ∑ i ∈ {i | reducesTo_S60x1024x1408_S1408_d0_1.drop i = ix1 d}, (mulf (extf .f32 Dy bitsLt_bf16_f32) (xhat X R)) i := by
    unfold dgamma
    pointwise
    exact (zero_add _).trans (Finset.sum_congr rfl fun i _ => rfl)
  rw [e, zero_add, ← Finset.sum_product']
  refine (Finset.sum_nbij' (fun p : Fin 60 × Fin 1024 => (ix3 p.1 p.2 d : S60x1024x1408.Idx)) (fun i => (i 0, i 1))
    (fun p _ => ?_) (fun i _ => Finset.mem_product.mpr ⟨Finset.mem_univ _, Finset.mem_univ _⟩) (fun p _ => rfl) (fun i hi => ?_) (fun p _ => ?_)).symm
  · rw [Finset.mem_filter]
    refine ⟨Finset.mem_univ _, funext fun a => ?_⟩
    fin_cases a; rfl
  · have e2 : i 2 = d := congrFun (Finset.mem_filter.mp hi).2 0
    subst e2
    exact (eq_ix3 i).symm
  · unfold xhat bcR
    pointwise

/-- The input gradient at an index. -/
theorem dx_at (b : Fin 60) (s : Fin 1024) (d : Fin 1408) : dx X Dy G R (ix3 b s d)
    = R (ix2 b s) * (Dy (ix3 b s d) * G (ix1 d) - X (ix3 b s d) * R (ix2 b s)
        * Ideal.div (∑ j, Dy (ix3 b s j) * G (ix1 j) * (X (ix3 b s j) * R (ix2 b s))) (Ideal.ofBits .f32 1152385024#32)) := by
  unfold dx gArr xhat bcR
  pointwise

/-- A maximum over every index is at most `z` exactly when its start and every element are. -/
theorem reduceMax_le {s t u : Shape} {axes : List (Fin s.rank)} (x : FVec Ideal s .f32) (init : FVec Ideal u .f32) (h : s.ReducesTo axes t)
    (hu : 0 < u.numel) (j : t.Idx) (hj : ∀ i, h.drop i = j) (z : EReal) :
    (Host.reduce (α := Ideal .f32) FloatOps.maximumf x init h hu j : EReal) ≤ z ↔ (init (Shape.Idx.first hu) : EReal) ≤ z ∧ ∀ i, (x i : EReal) ≤ z := by
  rw [Host.reduce_eq_fold]
  refine (Finset.fold_max_le (β := EReal) z).trans (and_congr_right fun _ => ⟨fun H i => H i ?_, fun H i _ => H i⟩)
  rw [Finset.mem_filter]
  exact ⟨Finset.mem_univ _, hj i⟩

/-- The greatest magnitude of `D`. -/
def maxAbs (D : FVec Ideal S60x1024x1408 .f32) : FVec Ideal S_ .f32 :=
  Host.reduce FloatOps.maximumf (Host.absf D) (constant (F := Ideal) S_ .f32 0xFF800000#32) reducesTo_S60x1024x1408_S_d0_1_2 h_S_

/-- It is the least bound of the magnitudes. -/
theorem maxAbs_le (D : FVec Ideal S60x1024x1408 .f32) (j : S_.Idx) (z : EReal) :
    (maxAbs D j : EReal) ≤ z ↔ ∀ b s d, eabs (D (ix3 b s d)) ≤ z := by
  refine (reduceMax_le _ _ _ _ _ (fun i => funext fun a => a.elim0) z).trans ⟨fun h b s d => h.2 _, fun h => ⟨?_, fun i => ?_⟩⟩
  · refine le_trans (le_of_eq ?_) (bot_le (a := z))
    exact ofBits_neg_inf
  · rw [eq_ix3 i]
    exact h _ _ _

/-- The quotient of a scalar `M`, at its one index. -/
theorem yOf_at (M : FVec Ideal S_ .f32) :
    ∃ j, mulf (broadcastInDim S1x1x1 ![] bcast_S_S1x1x1 M)
      (broadcastInDim S1x1x1 ![] bcast_S_S1x1x1 (constant (F := Ideal) S_ .f32 0x37924925#32)) (ix3 0 0 0) = M j * Ideal.ofBits .f32 0x37924925#32 :=
  ⟨_, rfl⟩

/-- The quotient: the greatest magnitude times the reciprocal of the format's maximum. -/
theorem yArr_at (D : FVec Ideal S60x1024x1408 .f32) : ∃ j, yArr D (ix3 0 0 0) = (maxAbs D j : EReal) * Ideal.ofBits .f32 0x37924925#32 := by
  obtain ⟨j, h⟩ := yOf_at (maxAbs D)
  refine ⟨j, Eq.trans ?_ h⟩
  unfold yArr maxAbs
  rfl

/-- The exponent. -/
theorem eArr_at (Y : FVec Ideal S1x1x1 .f32) : eArr Y (ix3 0 0 0)
    = Scalar.select (FloatOps.cmpf (F := Ideal) (φ := .f32) CmpFPredicate.olt (Y (ix3 0 0 0)) (Ideal.ofBits .f32 8388608#32)) 0
      (Ideal.liftRound Int.floor (Ideal.div (Ideal.log (Y (ix3 0 0 0))) (Ideal.log (Ideal.ofBits .f32 1073741824#32))) + 1) := by
  unfold eArr
  pointwise

/-- The clipped quotients at an index. -/
theorem clipped_at (D : FVec Ideal S60x1024x1408 .f32) (E : FVec Ideal S1x1x1 .f32) (b : Fin 60) (s : Fin 1024) (d : Fin 1408) :
    clipped D E (ix3 b s d) = min (Ideal.ofBits .f32 1197473792#32) (max (Ideal.ofBits .f32 3344957440#32)
      (D (ix3 b s d) * Ideal.pow (Ideal.ofBits .f32 1073741824#32) (-E (ix3 0 0 0)))) := by
  unfold clipped scale
  pointwise

/-- The scale. -/
theorem scale_at (E : FVec Ideal S1x1x1 .f32) (i : S1x1x1.Idx) : scale E i = Ideal.pow (Ideal.ofBits .f32 1073741824#32) (E i) := by
  unfold scale
  pointwise

end Cert.Proof.Ref
-- ==== Proof.Consts.lean ====
module

public import Idealize.ShloMosaic.PureOps.Ideal
public import Mathlib.Tactic.NormNum

/-! The float constants of the reference and of the precondition, as extended reals. -/

@[expose] public section

noncomputable section

open Idealize.ShloMosaic

namespace Cert.Proof

/-- The word of 1408. -/
theorem ofBits_1408 : Ideal.ofBits .f32 1152385024#32 = ((1408 : ℝ) : EReal) := by
  simp [Ideal.ofBits, Ideal.ieee, -EReal.coe_mul, -EReal.coe_sub, -EReal.coe_pow]
  norm_num

/-- The word of 2. -/
theorem ofBits_two : Ideal.ofBits .f32 1073741824#32 = ((2 : ℝ) : EReal) := by
  simp [Ideal.ofBits, Ideal.ieee, -EReal.coe_mul, -EReal.coe_sub, -EReal.coe_pow]
  norm_num

/-- The word of the smallest normal f32. -/
theorem ofBits_minNormal : Ideal.ofBits .f32 8388608#32 = (((2 : ℝ) ^ (-126 : ℤ) : ℝ) : EReal) := by
  simp [Ideal.ofBits, Ideal.ieee, -EReal.coe_mul, -EReal.coe_sub, -EReal.coe_pow]
  norm_num

/-- The word of infinity. -/
theorem ofBits_inf : Ideal.ofBits .f32 0x7F800000#32 = ⊤ := by
  simp [Ideal.ofBits, Ideal.ieee]

/-- The greatest finite f32. -/
theorem ofBits_max : Ideal.ofBits .f32 0x7F7FFFFF#32 = (((2 ^ 24 - 1) * 2 ^ 104 : ℝ) : EReal) := by
  simp [Ideal.ofBits, Ideal.ieee, -EReal.coe_mul, -EReal.coe_sub, -EReal.coe_pow]
  norm_num

/-- The reciprocal of the format's maximum, rounded to f32. -/
theorem ofBits_recip : Ideal.ofBits .f32 0x37924925#32 = ((9586981 / 2 ^ 39 : ℝ) : EReal) := by
  simp [Ideal.ofBits, Ideal.ieee, -EReal.coe_mul, -EReal.coe_sub, -EReal.coe_pow]
  norm_num

end Cert.Proof
-- ==== Proof.PreFacts.lean ====
module

public import proofs.«01_k».proof.Proof.RefAt
public import proofs.«01_k».proof.Proof.Consts
public import proofs.«01_k».proof.Defs
public import proofs.«01_k».proof.Proof.Gen.Pre_finite

/-! What the precondition says of the arguments: every one is finite, and the reference's input gradient is at most the greatest finite f32. -/

@[expose] public section

noncomputable section

open Idealize.ShloMosaic Idealize.ShloMosaic.TcCoe Idealize.SL.Sem

namespace Cert.Proof

/-- An extended real whose magnitude is below infinity is a real. -/
theorem real_of_abs_lt {x : EReal} (h : Ideal.cmp .olt (eabs x) (Ideal.ofBits .f32 0x7F800000#32) = 1#1) : ∃ r : ℝ, x = r := by
  rw [ofBits_inf] at h
  have h' : eabs x < ⊤ := by
    by_contra hn
    rw [Ideal.cmp, decide_eq_false hn] at h
    exact absurd h (by decide)
  unfold eabs at h'
  induction x with
  | bot => simp at h'
  | top => simp at h'
  | coe r => exact ⟨r, rfl⟩

/-- A comparison that came out true. -/
theorem le_of_cmp {x y : EReal} (h : Ideal.cmp .ole x y = 1#1) : x ≤ y := by
  by_contra hn
  rw [Ideal.cmp, decide_eq_false hn] at h
  exact absurd h (by decide)

variable (X Dy : FVec Ideal Cert.ReferenceIdeal.S60x1024x1408 .bf16) (G : FVec Ideal Cert.ReferenceIdeal.S1408 .f32) (R : FVec Ideal Cert.ReferenceIdeal.S60x1024 .f32)

/-- The precondition's last component is the reference's input gradient compared with the greatest finite f32. -/
theorem fn_dx : (Cert.Pre_finite.fn X Dy G R).2.2.2.2
    = cmpf .ole (Host.absf (Ref.dx X Dy G R)) (broadcastInDim Cert.ReferenceIdeal.S60x1024x1408 ![] Cert.Pre_finite.Facts.bcast_S_S60x1024x1408 (constant (F := Ideal) Cert.ReferenceIdeal.S_ .f32 0x7F7FFFFF#32)) := rfl

/-- Its first component is the activations' magnitudes compared with infinity; -/
theorem fn_x : (Cert.Pre_finite.fn X Dy G R).1
    = cmpf .olt (Host.absf (extf .f32 X Cert.Pre_finite.Facts.bitsLt_bf16_f32)) (broadcastInDim Cert.ReferenceIdeal.S60x1024x1408 ![] Cert.Pre_finite.Facts.bcast_S_S60x1024x1408 (constant (F := Ideal) Cert.ReferenceIdeal.S_ .f32 0x7F800000#32)) := rfl

/-- its second the incoming gradients'; -/
theorem fn_dy : (Cert.Pre_finite.fn X Dy G R).2.1
    = cmpf .olt (Host.absf (extf .f32 Dy Cert.Pre_finite.Facts.bitsLt_bf16_f32)) (broadcastInDim Cert.ReferenceIdeal.S60x1024x1408 ![] Cert.Pre_finite.Facts.bcast_S_S60x1024x1408 (constant (F := Ideal) Cert.ReferenceIdeal.S_ .f32 0x7F800000#32)) := rfl

/-- its third the weights'; -/
theorem fn_g : (Cert.Pre_finite.fn X Dy G R).2.2.1
    = cmpf .olt (Host.absf G) (broadcastInDim Cert.ReferenceIdeal.S1408 ![] Cert.Pre_finite.Facts.bcast_S_S1408 (constant (F := Ideal) Cert.ReferenceIdeal.S_ .f32 0x7F800000#32)) := rfl

/-- its fourth the row scales'. -/
theorem fn_r : (Cert.Pre_finite.fn X Dy G R).2.2.2.1
    = cmpf .olt (Host.absf R) (broadcastInDim Cert.ReferenceIdeal.S60x1024 ![] Cert.Pre_finite.Facts.bcast_S_S60x1024 (constant (F := Ideal) Cert.ReferenceIdeal.S_ .f32 0x7F800000#32)) := rfl

variable {X Dy G R}

/-- Finite activations are reals. -/
theorem real_x (h : (Cert.Pre_finite.fn X Dy G R).1 = fun _ => 1#1) : ∀ b s d, ∃ r : ℝ, (X (ix3 b s d) : EReal) = r := fun b s d =>
  real_of_abs_lt (congrFun ((fn_x X Dy G R).symm.trans h) (ix3 b s d))

/-- Finite incoming gradients are reals. -/
theorem real_dy (h : (Cert.Pre_finite.fn X Dy G R).2.1 = fun _ => 1#1) : ∀ b s d, ∃ r : ℝ, (Dy (ix3 b s d) : EReal) = r := fun b s d =>
  real_of_abs_lt (congrFun ((fn_dy X Dy G R).symm.trans h) (ix3 b s d))

/-- Finite weights are reals. -/
theorem real_g (h : (Cert.Pre_finite.fn X Dy G R).2.2.1 = fun _ => 1#1) : ∀ d, ∃ r : ℝ, (G (ix1 d) : EReal) = r := fun d =>
  real_of_abs_lt (congrFun ((fn_g X Dy G R).symm.trans h) (ix1 d))

/-- Finite row scales are reals. -/
theorem real_r (h : (Cert.Pre_finite.fn X Dy G R).2.2.2.1 = fun _ => 1#1) : ∀ b s, ∃ r : ℝ, (R (ix2 b s) : EReal) = r := fun b s =>
  real_of_abs_lt (congrFun ((fn_r X Dy G R).symm.trans h) (ix2 b s))

/-- The input gradient is at most the greatest finite f32 in magnitude. -/
theorem dx_le (h : (Cert.Pre_finite.fn X Dy G R).2.2.2.2 = fun _ => 1#1) (b s d) :
    eabs (Ref.dx X Dy G R (ix3 b s d)) ≤ Ideal.ofBits .f32 0x7F7FFFFF#32 :=
  le_of_cmp (congrFun ((fn_dx X Dy G R).symm.trans h) (ix3 b s d))

end Cert.Proof
-- ==== Proof.RowAlg.lean ====
module

public import proofs.«01_k».proof.Proof.Payloads
public import proofs.«01_k».proof.Proof.Consts
public import Mathlib.Tactic.Ring
public import Mathlib.Tactic.FieldSimp

/-! For finite arguments the kernel's input gradient of a row and the reference's are one real number. -/

@[expose] public section

noncomputable section

open Idealize.ShloMosaic

namespace Cert.Proof

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The input gradient of a row of reals: the plain formula. -/
def dxReal (r : ℝ) (x dy g : Fin 1408 → ℝ) (d : Fin 1408) : ℝ :=
  r * (dy d * g d - x d * r * ((∑ j, dy j * g j * (x j * r)) / 1408))

/-- The kernel's formula over reals. -/
theorem rowDx_real (r : ℝ) (x dy g : Fin 1408 → ℝ) (d : Fin 1408) :
    rowDx r (fun j => x j) (fun j => dy j) (fun j => g j) d = dxReal r x dy g d := by
  unfold rowDx invD dxReal
  simp only [← EReal.coe_mul, ← coe_sum, ← EReal.coe_sub]
  refine congrArg _ ?_
  have e : (∑ j, dy j * g j * (x j * r)) = ∑ j, dy j * r * g j * x j := Finset.sum_congr rfl fun j _ => by ring
  rw [e]
  ring

/-- The reference's formula over reals. -/
theorem refDx_real (r : ℝ) (x dy g : Fin 1408 → ℝ) (d : Fin 1408) :
    (r : EReal) * ((dy d : EReal) * (g d : EReal) - (x d : EReal) * (r : EReal)
      * Ideal.div (∑ j, (dy j : EReal) * (g j : EReal) * ((x j : EReal) * (r : EReal))) (Ideal.ofBits .f32 1152385024#32)) = dxReal r x dy g d := by
  have h0 : ((1408 : ℝ) : EReal) ≠ 0 := by
    rw [← EReal.coe_zero]
    exact fun h => by have := EReal.coe_injective h; norm_num at this
  rw [ofBits_1408, Ideal.div, if_neg h0, ← EReal.coe_inv]
  unfold dxReal
  simp only [← EReal.coe_mul, ← coe_sum, ← EReal.coe_sub]
  rw [div_eq_mul_inv]

end Cert.Proof
-- ==== Proof.RefExp.lean ====
module

public import proofs.«01_k».proof.Proof.Consts
public import proofs.«01_k».proof.Proof.Exponent

/-! The reference's exponent and powers of two, over the extended reals, at a real quotient. -/

@[expose] public section

noncomputable section

open Idealize.ShloMosaic

namespace Cert.Proof

/-- The reference's exponent of a real quotient is the integer exponent. -/
theorem refExp_eq (a : ℝ) :
    Scalar.select (FloatOps.cmpf (F := Ideal) (φ := .f32) CmpFPredicate.olt (a : EReal) (Ideal.ofBits .f32 8388608#32)) (0 : EReal)
      (Ideal.liftRound Int.floor (Ideal.div (Ideal.log (a : EReal)) (Ideal.log (Ideal.ofBits .f32 1073741824#32))) + 1)
      = (((expInt a : ℤ) : ℝ) : EReal) := by
  rw [ofBits_minNormal, ofBits_two]
  show Scalar.select (Ideal.cmp .olt (a : EReal) _) _ _ = _
  unfold expInt Scalar.select Ideal.cmp
  by_cases h : a < 2 ^ (-126 : ℤ)
  · rw [if_pos h, decide_eq_true (EReal.coe_lt_coe_iff.mpr h)]
    simp
  · have ha : ¬ a ≤ 0 := fun h' => h (lt_of_le_of_lt h' (by positivity))
    have h2 : ((Real.log 2 : ℝ) : EReal) ≠ 0 := by
      rw [← EReal.coe_zero]
      exact fun h => by
        have e := EReal.coe_injective h
        have p : (0 : ℝ) < Real.log 2 := Real.log_pos (by norm_num)
        exact absurd e p.ne'
    have l1 : Ideal.log (a : EReal) = ((Real.log a : ℝ) : EReal) := by
      show (if a ≤ 0 then (⊥ : EReal) else (Real.log a : EReal)) = _
      rw [if_neg ha]
    have l2 : Ideal.log ((2 : ℝ) : EReal) = ((Real.log 2 : ℝ) : EReal) := by
      show (if (2 : ℝ) ≤ 0 then (⊥ : EReal) else (Real.log 2 : EReal)) = _
      rw [if_neg (by norm_num)]
    rw [if_neg h, decide_eq_false (fun h' => h (EReal.coe_lt_coe_iff.mp h')), l1, l2, Ideal.div, if_neg h2, ← EReal.coe_inv, ← EReal.coe_mul,
      ← div_eq_mul_inv]
    show (if (0#1 : BitVec 1) = 1 then (0 : EReal) else (((⌊Real.log a / Real.log 2⌋ : ℤ) : ℝ) : EReal) + 1) = _
    rw [if_neg (by decide)]
    push_cast
    rfl

/-- A power of two with an integer exponent. -/
theorem refPow_eq (n : ℤ) : Ideal.pow (Ideal.ofBits .f32 1073741824#32) (((n : ℤ) : ℝ) : EReal) = (((2 : ℝ) ^ n : ℝ) : EReal) := by
  rw [ofBits_two]
  show ((Real.rpow 2 (n : ℝ) : ℝ) : EReal) = _
  exact congrArg _ (Real.rpow_intCast 2 n)

end Cert.Proof
-- ==== Proof.Agree.lean ====
module

public import proofs.«01_k».proof.Proof.KernelVals
public import proofs.«01_k».proof.Proof.PreFacts
public import proofs.«01_k».proof.Proof.RowAlg
public import proofs.«01_k».proof.Proof.RefExp

/-! For finite arguments the kernel's input gradient is the reference's, and so are the two quotients the scale is taken of. -/

@[expose] public section

noncomputable section

open Idealize.ShloMosaic Idealize.ShloMosaic.TcCoe Idealize.SL.Sem
open Cert.KernelIdeal Cert.KernelIdeal.Gen

namespace Cert.Proof

variable {X Dy : Vec Ideal S60x1024x1408 .bf16} {G : Vec Ideal S1408 .f32} {R : Vec Ideal S60x1024 .f32}

/-- The two input gradients are one real number. -/
theorem dx_agree (hx : ∀ b s d, ∃ r : ℝ, (X (ix3 b s d) : EReal) = r) (hy : ∀ b s d, ∃ r : ℝ, (Dy (ix3 b s d) : EReal) = r)
    (hg : ∀ d, ∃ r : ℝ, (G (ix1 d) : EReal) = r) (hr : ∀ b s, ∃ r : ℝ, (R (ix2 b s) : EReal) = r) (b : Fin 60) (s : Fin 1024) (d : Fin 1408) :
    ∃ v : ℝ, kDx X Dy G R b s d = v ∧ (Ref.dx X Dy G R (ix3 b s d) : EReal) = v := by
  choose x hx using fun j => hx b s j
  choose dy hy using fun j => hy b s j
  choose g hg using hg
  obtain ⟨r, hr⟩ := hr b s
  refine ⟨dxReal r x dy g d, ?_, ?_⟩
  · unfold kDx
    rw [← rowDx_real, hr, funext hx, funext hy, funext hg]
  · rw [← refDx_real, Ref.dx_at]
    simp only [hx, hy, hg, hr]

/-- A bound from above of magnitudes of reals is not negative. -/
theorem eabs_nonneg (v : ℝ) : (0 : EReal) ≤ eabs v := by
  unfold eabs
  rcases le_total 0 v with h | h
  · exact le_max_of_le_left (EReal.coe_nonneg.mpr h)
  · refine le_max_of_le_right ?_
    rw [← EReal.coe_neg]
    exact EReal.coe_nonneg.mpr (neg_nonneg.mpr h)

/-- A magnitude times the rounded reciprocal of the format's maximum stays far below the largest binades. -/
theorem quot_lt {M : EReal} (h0 : 0 ≤ M) (h : M ≤ Ideal.ofBits .f32 0x7F7FFFFF#32) :
    ∃ a : ℝ, M * Ideal.ofBits .f32 0x37924925#32 = a ∧ a < 2 ^ (113 : ℤ) := by
  rw [ofBits_max] at h
  induction M with
  | bot => exact absurd h0 (by simp)
  | top => exact absurd h (by simp [-EReal.coe_mul])
  | coe M =>
    rw [ofBits_recip, ← EReal.coe_mul]
    refine ⟨_, rfl, ?_⟩
    have h' : M ≤ (2 ^ 24 - 1) * 2 ^ 104 := EReal.coe_le_coe_iff.mp h
    refine lt_of_le_of_lt (mul_le_mul_of_nonneg_right h' (by norm_num)) ?_
    norm_num

variable (m : (ℓ : Loc nD τ sig) → Buf (Elt Ideal) ℓ) (ρ : Dev nD → PrngReg) (c : Dev nD)

/-- The two quotients are one real number, below `2 ^ 113`. -/
theorem quot_agree (hv : ∀ b s d, ∃ v : ℝ, kDx (argX m c) (argDy m c) (argG m c) (argR m c) b s d = v
      ∧ (Ref.dx (argX m c) (argDy m c) (argG m c) (argR m c) (ix3 b s d) : EReal) = v)
    (hle : ∀ b s d, eabs (Ref.dx (argX m c) (argDy m c) (argG m c) (argR m c) (ix3 b s d)) ≤ Ideal.ofBits .f32 0x7F7FFFFF#32) :
    ∃ a : ℝ, k1_pay5 (F := Ideal) (stats (V1 m ρ) c).2 (ix2 0 0) = (a : EReal)
      ∧ (Ref.yArr (Ref.dx (argX m c) (argDy m c) (argG m c) (argR m c)) (ix3 0 0 0) : EReal) = a ∧ a < 2 ^ (113 : ℤ) := by
  obtain ⟨M, hM, hz⟩ := pay5q_eq (stats (V1 m ρ) c).2
  obtain ⟨j, hj⟩ := Ref.yArr_at (Ref.dx (argX m c) (argDy m c) (argG m c) (argR m c))
  have hk : ∀ b s d, kDx (argX m c) (argDy m c) (argG m c) (argR m c) b s d = Ref.dx (argX m c) (argDy m c) (argG m c) (argR m c) (ix3 b s d) :=
    fun b s d => by obtain ⟨v, e1, e2⟩ := hv b s d; exact e1.trans e2.symm
  have h0 : (0 : EReal) ≤ eabs (Ref.dx (argX m c) (argDy m c) (argG m c) (argR m c) (ix3 0 0 0)) := by
    obtain ⟨v, _, e2⟩ := hv 0 0 0
    rw [e2]
    exact eabs_nonneg v
  have key : ∀ z : EReal, M ≤ z ↔ ∀ b s d, eabs (Ref.dx (argX m c) (argDy m c) (argG m c) (argR m c) (ix3 b s d)) ≤ z := fun z => by
    refine (hz z).trans ((maxima_le m ρ c z).trans ⟨fun h b s d => ?_, fun h => ⟨le_trans h0 (h 0 0 0), fun b s d => ?_⟩⟩)
    · rw [← hk]; exact h.2 b s d
    · rw [hk]; exact h b s d
  have e : M = Ref.maxAbs (Ref.dx (argX m c) (argDy m c) (argG m c) (argR m c)) j :=
    eq_of_forall_ge_iff fun z => (key z).trans (Ref.maxAbs_le _ j z).symm
  have hM0 : 0 ≤ M := le_trans h0 ((key M).mp le_rfl 0 0 0)
  obtain ⟨a, ha, hlt⟩ := quot_lt hM0 ((key _).mpr hle)
  exact ⟨a, hM.trans ha, hj.trans ((congrArg (· * Ideal.ofBits .f32 0x37924925#32) e.symm).trans ha), hlt⟩

end Cert.Proof
-- ==== Proof.KernelRun.lean ====
module

public import proofs.«01_k».proof.Proof.Gen.KernelIdeal.Frame

/-! The kernel's run, ending with its three results at the contents the generated boundary valuation `W4` names. -/

@[expose] public section

noncomputable section

namespace Cert.Proof.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every run of the kernel ends, its results at `W4` and its arguments as launched. -/
theorem run : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_v3_0) = W4 m ρ c (Proc.devRef .tc main_v3_0)
      ∧ r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v4 (by decide)), h c _ (mem_uc main_v3_0 (by decide)), h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Proof.KRun
-- ==== Proof.RefRun.lean ====
module

public import proofs.«01_k».proof.Proof.RefVals
public import Idealize.ShloMosaic.Lib.Pipeline.Value
public import Idealize.ShloMosaic.Lib.Pointwise.Tactic
public import Idealize.ShloMosaic.Lib.Pointwise.Reduce
public import Idealize.ShloMosaic.Lib.Pointwise.Reshape
public import Idealize.ShloMosaic.Lib.Pipeline.ValueKit.Basic

/-! The reference's run: the cast leaves the clipped quotients as they are, over the extended reals, and the results end at the arrays the host operations compute. -/

@[expose] public section

noncomputable section

open Idealize.ShloMosaic Idealize.ShloMosaic.TcCoe Idealize.SL.Sem
open Idealize.ShloMosaic.Pipeline (Dat)

namespace Cert.Proof.Ref

open Cert.ReferenceIdeal Cert.ReferenceIdeal.Gen

/-- The body's cast, over the extended reals: the identity. -/
theorem k0_pay1_eq (v : Vec Ideal S60x1024x1408 .f32) : (k0_pay1 v : S60x1024x1408.Idx → EReal) = v := by
  funext i
  rw [eq_ix3 i]
  unfold k0_pay1
  pointwise

variable (m : (ℓ : Loc nD τ sig) → Buf (Elt Ideal) ℓ) (ρ : Dev nD → PrngReg) (c : Dev nD)

/-- The one block is the whole array of clipped quotients. -/
theorem iblk_eq (t : Fin cfg0.N) : iblk m c 0 t = V m c main_v48 := by
  funext y
  show V m c main_v48 (((cfg0.win 0).blk t).view.emb y) = V m c main_v48 y
  refine congrArg (V m c main_v48) (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The codes the cast leaves. -/
def codesArr : Vec Ideal S60x1024x1408 .fp8e5m2 := k0_pay1 (V m c main_v48)

/-- The body leaves the cast of its block. -/
theorem out_eq (x : Vec Ideal S60x1024x1408 .f32) : out0_1 x = k0_pay1 x := by
  unfold out0_1
  rw [View.canon_cons_unit_lit (S := S60x1024x1408) _ _ _ (by decide), View.ld_unit_lit (S := S60x1024x1408) _ _ (by decide)]

/-- The one point writes the codes back whole. -/
theorem flushed (t : Fin cfg0.N) (_ : (cfg0.win 1).flush t = true) :
    (dats m 0 c).flushed 1 t = ((cfg0.win 1).blk t).view.read (Elt Ideal) (codesArr m c) := by
  show (cfg0.win 1).cut (grid0.coords t) ((dats m 0 c).after 1 t) = _
  rw [after0_1, iblk_eq, out_eq]
  funext y
  show codesArr m c y = codesArr m c (((cfg0.win 1).blk t).view.emb y)
  refine congrArg (codesArr m c) (funext fun a => Fin.ext ?_)
  match a with
  | ⟨0, _⟩ => show (y 0).val = 0 + 1 * (y 0).val; omega
  | ⟨1, _⟩ => show (y 1).val = 0 + 1 * (y 1).val; omega
  | ⟨2, _⟩ => show (y 2).val = 0 + 1 * (y 2).val; omega

/-- The one point. -/
abbrev tl : Fin cfg0.N := ⟨0, by decide⟩

/-- The codes' array after the cast. -/
theorem arr : (dats m 0 c).arrAt 1 cfg0.N = codesArr m c :=
  (dats m 0 c).arrAt_eq_of_cover 1 (codesArr m c) (flushed m c) fun i =>
    ⟨tl, flush0_1 _, by
      show i ∈ ((View.whole main_v49).slice (win0_1.rect tl)).set
      rw [View.set_slice_whole, Rect.mem_set_unit]
      intro a
      have h0 : (i 0 : Nat) < 60 := (i 0).isLt
      have h1 : (i 1 : Nat) < 1024 := (i 1).isLt
      have h2 : (i 2 : Nat) < 1408 := (i 2).isLt
      match a with
      | ⟨0, _⟩ => show 0 ≤ (i 0 : Nat) ∧ (i 0 : Nat) < 0 + 60; omega
      | ⟨1, _⟩ => show 0 ≤ (i 1 : Nat) ∧ (i 1 : Nat) < 0 + 1024; omega
      | ⟨2, _⟩ => show 0 ≤ (i 2 : Nat) ∧ (i 2 : Nat) < 0 + 1408; omega⟩

/-- From any memory with zero counters every run of the reference ends, its results at the arrays above and its arguments as launched. -/
theorem run : θ_run defs (onTc (τ := τ) (main (F := Ideal))) ⟨m, fun _ => 0, ρ⟩ (fun r => ∀ c : Dev nD,
      r.2.mem ((c.tc : Thread nD τ).loc main_v6) = dgamma (aX m c) (aDy m c) (aR m c)
      ∧ r.2.mem ((c.tc : Thread nD τ).loc main_v49) = codesArr m c
      ∧ r.2.mem ((c.tc : Thread nD τ).loc main_v42) = scale (eOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v6 (Pipeline.mem_restRefs_of main_v6 (by decide) (by decide))).trans (V_dgamma m c),
      ((h c).1 1).trans (arr m c),
      ((h c).2 main_v42 (Pipeline.mem_restRefs_of main_v42 (by decide) (by decide))).trans (V_scale m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Proof.Ref
-- ==== Proof.Results.lean ====
module

public import proofs.«01_k».proof.Proof.Agree
public import proofs.«01_k».proof.Proof.KernelRun
public import proofs.«01_k».proof.Proof.RefRun

/-! The two programs' results are the same arrays, for launches on the same finite arguments. -/

@[expose] public section

noncomputable section

open Idealize.ShloMosaic Idealize.ShloMosaic.TcCoe Idealize.SL.Sem
open Cert.KernelIdeal Cert.KernelIdeal.Gen

namespace Cert.Proof

variable (m : (ℓ : Loc nD τ sig) → Buf (Elt Ideal) ℓ) (ρ : Dev nD → PrngReg) (c : Dev nD)

/-- The weight gradients agree, for any arguments. -/
theorem dgamma_agree : (W4 m ρ c (Proc.devRef .tc main_v4) : Vec Ideal S1408 .f32) = Ref.dgamma (argX m c) (argDy m c) (argR m c) := by
  funext i
  obtain ⟨d, rfl⟩ : ∃ d, i = ix1 d := ⟨i 0, eq_ix1 i⟩
  refine (dgamma_val m ρ c d).trans (Eq.trans ?_ (Ref.dgamma_at (argX m c) (argDy m c) (argR m c) d).symm)
  refine Finset.sum_congr (M := EReal) rfl fun b _ => Finset.sum_congr (M := EReal) rfl fun s _ => ?_
  exact (mul_assoc (G := EReal) _ _ _).trans (congrArg (_ * ·) (mul_comm (G := EReal) _ _))

/-- The reference's exponent for these arguments. -/
abbrev refE : FVec Ideal Cert.ReferenceIdeal.S1x1x1 .f32 := Ref.eArr (Ref.yArr (Ref.dx (argX m c) (argDy m c) (argG m c) (argR m c)))

/-- The reference's exponent at the quotient `a`. -/
theorem refE_eq {a : ℝ} (h : (Ref.yArr (Ref.dx (argX m c) (argDy m c) (argG m c) (argR m c)) (ix3 0 0 0) : EReal) = a) :
    (refE m c (ix3 0 0 0) : EReal) = (((expInt a : ℤ) : ℝ) : EReal) := by
  refine (Ref.eArr_at _).trans (Eq.trans ?_ (refExp_eq a))
  rw [h]

variable (hv : ∀ b s d, ∃ v : ℝ, kDx (argX m c) (argDy m c) (argG m c) (argR m c) b s d = v
      ∧ (Ref.dx (argX m c) (argDy m c) (argG m c) (argR m c) (ix3 b s d) : EReal) = v)
    (hle : ∀ b s d, eabs (Ref.dx (argX m c) (argDy m c) (argG m c) (argR m c) (ix3 b s d)) ≤ Ideal.ofBits .f32 0x7F7FFFFF#32)

include hv hle

/-- The scales agree. -/
theorem scale_agree : (W4 m ρ c (Proc.devRef .tc main_v5) : Vec Ideal S1x1x1 .f32) = Ref.scale (refE m c) := by
  obtain ⟨a, h1, h2, hlt⟩ := quot_agree m ρ c hv hle
  refine (W4_scale m ρ c).trans (funext fun i => ?_)
  have ei : i = (ix3 0 0 0 : S1x1x1.Idx) := funext fun k => by
    match k with
    | ⟨0, _⟩ => exact Subsingleton.elim (α := Fin 1) _ _
    | ⟨1, _⟩ => exact Subsingleton.elim (α := Fin 1) _ _
    | ⟨2, _⟩ => exact Subsingleton.elim (α := Fin 1) _ _
  subst ei
  refine Eq.trans ?_ (Ref.scale_at (refE m c) _).symm
  rw [refE_eq m c h2, refPow_eq]
  show scaleOf (stats (V1 m ρ) c).2 = _
  unfold scaleOf
  rw [h1]
  exact (scale_eq a hlt).1

/-- The codes agree. -/
theorem codes_agree : (W4 m ρ c (Proc.devRef .tc main_v3_0) : S60x1024x1408.Idx → EReal)
    = Ref.clipped (Ref.dx (argX m c) (argDy m c) (argG m c) (argR m c)) (refE m c) := by
  obtain ⟨a, h1, h2, hlt⟩ := quot_agree m ρ c hv hle
  funext i
  obtain ⟨b, s, d, rfl⟩ : ∃ b s d, i = ix3 b s d := ⟨i 0, i 1, i 2, eq_ix3 i⟩
  refine (codes_val m ρ c b s d).trans (Eq.trans ?_ (Ref.clipped_at _ (refE m c) b s d).symm)
  have hi : invOf (stats (V1 m ρ) c).2 = (((2 : ℝ) ^ (-expInt a) : ℝ) : EReal) := by
    unfold invOf
    rw [h1]
    exact (scale_eq a hlt).2
  have hp : Ideal.pow (Ideal.ofBits .f32 1073741824#32) (-(refE m c (ix3 0 0 0) : EReal)) = (((2 : ℝ) ^ (-expInt a) : ℝ) : EReal) := by
    rw [refE_eq m c h2, ← refPow_eq, ← EReal.coe_neg]
    push_cast
    rfl
  obtain ⟨v, e1, e2⟩ := hv b s d
  rw [hi]
  refine congrArg (fun w : EReal => min (Ideal.ofBits .f32 1197473792#32) (max (Ideal.ofBits .f32 3344957440#32) w)) ?_
  exact (congrArg (· * _) (e1.trans e2.symm)).trans (congrArg (_ * ·) hp.symm)

end Cert.Proof
-- ==== Proof.Algebraic.lean ====
module

public import proofs.«01_k».proof.Defs
public import proofs.«01_k».proof.Proof.Results

/-! The algebraic claim: over the extended reals the kernel and the reference leave the same three results. -/

@[expose] public section

noncomputable section

open Idealize.ShloMosaic Idealize.ShloMosaic.TcCoe Idealize.SL.Sem

namespace Cert.Proof

/-- Launched on the same finite arguments, both programs run and leave the same weight gradient, codes and scale. -/
theorem algebraic : Cert.algebraic_KernelIdeal_ReferenceIdeal_pre_finite := by
  intro m g m' g' hpre harg
  refine ⟨fun c => Cert.KernelIdeal.Gen.W4 m g c (Proc.devRef .tc Cert.KernelIdeal.main_v4),
    fun c => Cert.KernelIdeal.Gen.W4 m g c (Proc.devRef .tc Cert.KernelIdeal.main_v3_0),
    fun c => Cert.KernelIdeal.Gen.W4 m g c (Proc.devRef .tc Cert.KernelIdeal.main_v5), KRun.run m g, ?_⟩
  refine (θ_run _ _ _).mono (fun r h c => ?_) (Ref.run m' g')
  obtain ⟨h0, h1, h2, h3⟩ := h c
  have ex : Ref.aX m' c = argX m c := (harg c).1
  have ey : Ref.aDy m' c = argDy m c := (harg c).2.1
  have eg : Ref.aG m' c = argG m c := (harg c).2.2.1
  have er : Ref.aR m' c = argR m c := (harg c).2.2.2
  obtain ⟨px, py, pg, pr, pd⟩ := hpre c
  have hv := dx_agree (real_x px) (real_dy py) (real_g pg) (real_r pr)
  have hle := dx_le pd
  refine ⟨h0.trans ?_, h1.trans ?_, h2.trans ?_, h3⟩
  · rw [ex, ey, er]
    exact (dgamma_agree m g c).symm
  · refine (Ref.k0_pay1_eq _).trans ((Ref.V_clipped m' c).trans ?_)
    unfold Ref.eOf
    rw [ex, ey, eg, er]
    exact (codes_agree m g c hv hle).symm
  · unfold Ref.eOf
    rw [ex, ey, eg, er]
    exact (scale_agree m g c hv hle).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  IdealRules.named_const.statement Cert.KernelIdeal.κ "inv_d" .f32 0x3A3A2E8C#32 ((1 / 1408 : ℝ) : EReal) rfl, Cert.Proof.algebraic⟩

end Cert.Proof

end
